-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_within_capacity [hKernelIdeal : Cert.KernelIdeal.Facts] [hReferenceIdeal : Cert.ReferenceIdeal.Facts] [hOn_within_capacity : Cert.On_within_capacity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 1024]⟩ : Shape).Idx, (Layout.blockN ⟨2, ![512, 1024]⟩ ⟨2, ![1024, 1024]⟩ (Layout.meshBlock [2, 2, 4] ![[1], []] c) ((Cert.On_within_capacity.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![512, 1024]⟩ : Shape).Idx → _) i = 1#1 → r.2.mem ((c.tc : Thread Cert.KernelIdeal.nD Cert.KernelIdeal.τ).loc Cert.KernelIdeal.main_v1) i = (Layout.blockN ⟨2, ![512, 1024]⟩ ⟨2, ![1024, 1024]⟩ (Layout.meshBlock [2, 2, 4] ![[1], []] c) v0 : (⟨2, ![512, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_within_capacity.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v206) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_within_capacity : Cert.On_within_capacity.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_within_capacity (hKernelIdeal := hKernelIdeal) (hReferenceIdeal := hReferenceIdeal) (hOn_within_capacity := hOn_within_capacity)
-- ==== On_within_capacity.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024x2x1 : Shape := ⟨3, ![1024, 2, 1]⟩
abbrev S1 : Shape := ⟨1, ![1]⟩
abbrev S1x1x1 : Shape := ⟨3, ![1, 1, 1]⟩
abbrev S8 : Shape := ⟨1, ![8]⟩
abbrev S1x1x8 : Shape := ⟨3, ![1, 1, 8]⟩
abbrev S1024x2x8 : Shape := ⟨3, ![1024, 2, 8]⟩
abbrev S2x512x8 : Shape := ⟨3, ![2, 512, 8]⟩
abbrev S1024 : Shape := ⟨1, ![1024]⟩
abbrev S1024x1 : Shape := ⟨2, ![1024, 1]⟩

class Facts : Prop where
  slices_S1024x8_S1024x2_0_0 : S1024x8.Slices ![0, 0] S1024x2
  bcast_S_S1024x2 : S_.BroadcastsInDim S1024x2 (![] : Fin 0 → Fin S1024x2.rank)
  shapeCasts_S1024x2_S1024x2x1 : S1024x2.ShapeCasts S1024x2x1
  bcast_S_S1024x2x1 : S_.BroadcastsInDim S1024x2x1 (![] : Fin 0 → Fin S1024x2x1.rank)
  bcast_S1_S1x1x1_2 : S1.BroadcastsInDim S1x1x1 (![2] : Fin 1 → Fin S1x1x1.rank)
  bcast_S1x1x1_S1024x2x1_0_1_2 : S1x1x1.BroadcastsInDim S1024x2x1 (![0, 1, 2] : Fin 3 → Fin S1024x2x1.rank)
  reducesTo_S1024x2x1_S1024x2_d2 : S1024x2x1.ReducesTo [2] S1024x2
  h_S_ : 0 < S_.numel
  bcast_S1024x2_S1024x2x1_0_1 : S1024x2.BroadcastsInDim S1024x2x1 (![0, 1] : Fin 2 → Fin S1024x2x1.rank)
  bcast_S8_S1x1x8_2 : S8.BroadcastsInDim S1x1x8 (![2] : Fin 1 → Fin S1x1x8.rank)
  bcast_S1024x2x1_S1024x2x8_0_1_2 : S1024x2x1.BroadcastsInDim S1024x2x8 (![0, 1, 2] : Fin 3 → Fin S1024x2x8.rank)
  bcast_S1x1x8_S1024x2x8_0_1_2 : S1x1x8.BroadcastsInDim S1024x2x8 (![0, 1, 2] : Fin 3 → Fin S1024x2x8.rank)
  reducesTo_S1024x2x8_S1024x8_d1 : S1024x2x8.ReducesTo [1] S1024x8
  natLt_1_32 : 1 < 32
  shapeCasts_S1024x8_S2x512x8 : S1024x8.ShapeCasts S2x512x8
  bcast_S_S_ : S_.BroadcastsInDim S_ (![] : Fin 0 → Fin S_.rank)
  reduceWindows_S2x512x8_S2x512x8_w1s1p0_0_w512s1p511_0_w1s1p0_0 : S2x512x8.ReduceWindows (![1, 512, 1] : Fin 3 → Nat) ![1, 1, 1] ![0, 511, 0] ![0, 0, 0] S2x512x8
  shapeCasts_S2x512x8_S1024x8 : S2x512x8.ShapeCasts S1024x8
  bcast_S_S1024x8 : S_.BroadcastsInDim S1024x8 (![] : Fin 0 → Fin S1024x8.rank)
  reducesTo_S1024x8_S1024_d1 : S1024x8.ReducesTo [1] S1024
  slices_S1024x2_S1024x1_0_1 : S1024x2.Slices ![0, 1] S1024x1
  shapeCasts_S1024x1_S1024 : S1024x1.ShapeCasts S1024
  bcast_S_S1024 : S_.BroadcastsInDim S1024 (![] : Fin 0 → Fin S1024.rank)
  slices_S1024x2_S1024x1_0_0 : S1024x2.Slices ![0, 0] S1024x1
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  dot_S1024x1024_S1024x8_S1024x8_1_0_0_1_n_n_wf : DotDims.WF S1024x1024 S1024x8 S1024x8 [1] [0] [0] [1] [] []
  gather_S1024x8_S1024x2x1_S1024x2_n_1_0_0_1_2_11_wf : GatherDims.WF S1024x8 S1024x2x1 S1024x2 [] [1] [0] [1] [0] 2 ![1, 1]

variable [Facts]

variable {F : FTy → Type} [FloatOps F]
def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S1024x8_S1024x2x1_S1024x2_n_1_0_0_1_2_11 : GatherDims S1024x8 S1024x2x1 S1024x2 where
  offsetDims := []
  collapsedSliceDims := [1]
  operandBatchingDims := [0]
  startIndicesBatchingDims := [0]
  startIndexMap := [1]
  indexVectorDim := 2
  sliceSizes := ![1, 1]
  wf := gather_S1024x8_S1024x2x1_S1024x2_n_1_0_0_1_2_11_wf

def fn_argsort {F : FTy → Type} [FloatOps F] (arg0 : FVec F S1024x8 .f32) : IVec S1024x8 32 :=
  let v0 : IVec S1024x8 32 := iotaInDim S1024x8 32 1
  let v1_0 : FVec F S1024x8 .f32 := (fun x y => (Host.sort2 S1024x8 1 comparator_f32_i32_d1 x y).1) arg0 v0
  let v1_1 : IVec S1024x8 32 := (fun x y => (Host.sort2 S1024x8 1 comparator_f32_i32_d1 x y).2) arg0 v0
  v1_1

def fn_take_along_axis {F : FTy → Type} [FloatOps F] (arg0 : FVec F S1024x8 .f32) (arg1 : IVec S1024x2 32) : FVec F S1024x2 .f32 :=
  let c : IVec S_ 32 := constantI S_ 32 0#32
  let v0 : IVec S1024x2 32 := broadcastInDim S1024x2 ![] bcast_S_S1024x2 c
  let v1 : IVec S1024x2 1 := cmpi .slt arg1 v0
  let c_0 : IVec S_ 32 := constantI S_ 32 8#32
  let v2 : IVec S1024x2 32 := broadcastInDim S1024x2 ![] bcast_S_S1024x2 c_0
  let v3 : IVec S1024x2 32 := addi arg1 v2
  let v4 : IVec S1024x2 32 := select v1 v3 arg1
  let v5 : IVec S1024x2x1 32 := shapeCast S1024x2x1 v4 shapeCasts_S1024x2_S1024x2x1
  let c_1 : IVec S1 32 := constantI S1 32 7#32
  let c_2 : IVec S_ 32 := constantI S_ 32 0#32
  let v6 : IVec S1024x2x1 32 := broadcastInDim S1024x2x1 ![] bcast_S_S1024x2x1 c_2
  let v7 : IVec S1024x2x1 1 := cmpi .sge v5 v6
  let v8 : IVec S1x1x1 32 := broadcastInDim S1x1x1 ![2] bcast_S1_S1x1x1_2 c_1
  let v9 : IVec S1024x2x1 32 := broadcastInDim S1024x2x1 ![0, 1, 2] bcast_S1x1x1_S1024x2x1_0_1_2 v8
  let v10 : IVec S1024x2x1 1 := cmpi .sle v5 v9
  let v11 : IVec S1024x2x1 1 := andi v7 v10
  let c_3 : IVec S_ 1 := constantI S_ 1 1#1
  let v12 : IVec S1024x2 1 := (fun x v => Host.reduce IntOp.andi x v reducesTo_S1024x2x1_S1024x2_d2 h_S_) v11 c_3
  let v13 : FVec F S1024x2 .f32 := (fun x i => Host.gather gather_S1024x8_S1024x2x1_S1024x2_n_1_0_0_1_2_11 x i) arg0 v5
  let cst : FVec F S_ .f32 := constant S_ .f32 0x7FC00000#32
  let v14 : FVec F S1024x2 .f32 := broadcastInDim S1024x2 ![] bcast_S_S1024x2 cst
  let v15 : FVec F S1024x2 .f32 := select v12 v13 v14
  v15

def fn_cumsum_0 {F : FTy → Type} [FloatOps F] (arg0 : IVec S2x512x8 32) : IVec S2x512x8 32 :=
  let c : IVec S_ 32 := constantI S_ 32 0#32
  let v0 : IVec S_ 32 := broadcastInDim S_ ![] bcast_S_S_ c
  let v1 : IVec S2x512x8 32 := (fun x v => Host.reduceWindow IntOp.addi ![1, 512, 1] ![1, 1, 1] ![0, 511, 0] ![0, 0, 0] x v reduceWindows_S2x512x8_S2x512x8_w1s1p0_0_w512s1p511_0_w1s1p0_0 h_S_) arg0 v0
  v1

def fn_cumsum {F : FTy → Type} [FloatOps F] (arg0 : IVec S2x512x8 32) : IVec S2x512x8 32 :=
  let v0 : IVec S2x512x8 32 := fn_cumsum_0 (F := F) arg0
  v0

def fn_where {F : FTy → Type} [FloatOps F] (arg0 : IVec S1024x8 1) (arg1 : IVec S1024x8 1) (arg2 : IVec S_ 1) : IVec S1024x8 1 :=
  let v0 : IVec S1024x8 1 := broadcastInDim S1024x8 ![] bcast_S_S1024x8 arg2
  let v1 : IVec S1024x8 1 := select arg0 arg1 v0
  v1

def fn_part1 {F : FTy → Type} [FloatOps F] (main_v4 : FVec F S1024x2 .f32) (main_v19 : IVec S1024 1) : IVec S1024x1024 1 :=
  let main_v20 : FVec F S1024x1 .f32 := (extractStridedSlice S1024x1 ![0, 1] · slices_S1024x2_S1024x1_0_1) main_v4
  let main_v21 : FVec F S1024 .f32 := shapeCast S1024 main_v20 shapeCasts_S1024x1_S1024
  let main_cst : FVec F S_ .f32 := constant S_ .f32 0xFF800000#32
  let main_v22 : FVec F S1024 .f32 := broadcastInDim S1024 ![] bcast_S_S1024 main_cst
  let main_v23 : IVec S1024 1 := cmpf .ogt main_v21 main_v22
  let main_v24 : IVec S1024 1 := andi main_v19 main_v23
  let main_v25 : FVec F S1024x1 .f32 := (extractStridedSlice S1024x1 ![0, 0] · slices_S1024x2_S1024x1_0_0) main_v4
  let main_v26 : FVec F S1024 .f32 := shapeCast S1024 main_v25 shapeCasts_S1024x1_S1024
  let main_cst_3 : FVec F S_ .f32 := constant S_ .f32 0x7F800000#32
  let main_v27 : FVec F S1024 .f32 := broadcastInDim S1024 ![] bcast_S_S1024 main_cst_3
  let main_v28 : IVec S1024 1 := cmpf .olt main_v26 main_v27
  let main_v29 : IVec S1024 1 := andi main_v24 main_v28
  let main_v30 : IVec S1024x1 1 := broadcastInDim S1024x1 ![0] bcast_S1024_S1024x1_0 main_v29
  let main_v31 : IVec S1024x1024 1 := broadcastInDim S1024x1024 ![0, 1] bcast_S1024x1_S1024x1024_0_1 main_v30
  main_v31

def fn {F : FTy → Type} [FloatOps F] (main_arg0 : FVec F S1024x1024 .f32) (main_arg1 : FVec F S1024x8 .f32) (main_arg2 : FVec F S8x1024x2048 .f32) (main_arg3 : FVec F S8x2048x1024 .f32) : IVec S1024x1024 1 :=
  let main_v0 : FVec F S1024x8 .f32 := (fun l r => Host.dotGeneral dot_S1024x1024_S1024x8_S1024x8_1_0_0_1_n_n none l r) main_arg0 main_arg1
  let main_v1 : FVec F S1024x8 .f32 := Host.negf main_v0
  let main_v2 : IVec S1024x8 32 := fn_argsort (F := F) main_v1
  let main_v3 : IVec S1024x2 32 := (extractStridedSlice S1024x2 ![0, 0] · slices_S1024x8_S1024x2_0_0) main_v2
  let main_v4 : FVec F S1024x2 .f32 := fn_take_along_axis (F := F) main_v0 main_v3
  let main_v5 : IVec S1024x2x1 32 := broadcastInDim S1024x2x1 ![0, 1] bcast_S1024x2_S1024x2x1_0_1 main_v3
  let main_v6 : IVec S8 32 := iotaInDim S8 32 0
  let main_v7 : IVec S1x1x8 32 := broadcastInDim S1x1x8 ![2] bcast_S8_S1x1x8_2 main_v6
  let main_v8 : IVec S1024x2x8 32 := broadcastInDim S1024x2x8 ![0, 1, 2] bcast_S1024x2x1_S1024x2x8_0_1_2 main_v5
  let main_v9 : IVec S1024x2x8 32 := broadcastInDim S1024x2x8 ![0, 1, 2] bcast_S1x1x8_S1024x2x8_0_1_2 main_v7
  let main_v10 : IVec S1024x2x8 1 := cmpi .eq main_v8 main_v9
  let main_c : IVec S_ 1 := constantI S_ 1 0#1
  let main_v11 : IVec S1024x8 1 := (fun x v => Host.reduce IntOp.ori x v reducesTo_S1024x2x8_S1024x8_d1 h_S_) main_v10 main_c
  let main_v12 : IVec S1024x8 32 := (extui 32 · natLt_1_32) main_v11
  let main_v13 : IVec S2x512x8 32 := shapeCast S2x512x8 main_v12 shapeCasts_S1024x8_S2x512x8
  let main_v14 : IVec S2x512x8 32 := fn_cumsum (F := F) main_v13
  let main_v15 : IVec S1024x8 32 := shapeCast S1024x8 main_v14 shapeCasts_S2x512x8_S1024x8
  let main_c_0 : IVec S_ 32 := constantI S_ 32 192#32
  let main_v16 : IVec S1024x8 32 := broadcastInDim S1024x8 ![] bcast_S_S1024x8 main_c_0
  let main_v17 : IVec S1024x8 1 := cmpi .sle main_v15 main_v16
  let main_c_1 : IVec S_ 1 := constantI S_ 1 1#1
  let main_v18 : IVec S1024x8 1 := fn_where (F := F) main_v11 main_v17 main_c_1
  let main_c_2 : IVec S_ 1 := constantI S_ 1 1#1
  let main_v19 : IVec S1024 1 := (fun x v => Host.reduce IntOp.andi x v reducesTo_S1024x8_S1024_d1 h_S_) main_v18 main_c_2
  fn_part1 (F := F) main_v4 main_v19
-- ==== Kernel.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S2x1024x2048 : Shape := ⟨3, ![2, 1024, 2048]⟩
abbrev S2x2048x1024 : Shape := ⟨3, ![2, 2048, 1024]⟩
abbrev S2x1024x4 : Shape := ⟨3, ![2, 1024, 4]⟩
abbrev S2 : Shape := ⟨1, ![2]⟩
abbrev S4 : Shape := ⟨1, ![4]⟩
abbrev S512x512 : Shape := ⟨2, ![512, 512]⟩
abbrev S512x192 : Shape := ⟨2, ![512, 192]⟩
abbrev S_ : Shape := ⟨0, ![]⟩
abbrev S1x1024x4 : Shape := ⟨3, ![1, 1024, 4]⟩
abbrev S1 : Shape := ⟨1, ![1]⟩
abbrev S1024x8 : Shape := ⟨2, ![1024, 8]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S512x8 : Shape := ⟨2, ![512, 8]⟩
abbrev S512 : Shape := ⟨1, ![512]⟩
abbrev S512x1 : Shape := ⟨2, ![512, 1]⟩
abbrev S192x1024 : Shape := ⟨2, ![192, 1024]⟩
abbrev S192x2048 : Shape := ⟨2, ![192, 2048]⟩

abbrev nBuf : Space → Nat
  | .hbm => 5
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S512x1024, .f32⟩
  | .local _ .vmem, ⟨0, _⟩ => ⟨S512x1024, .f32⟩
  | .local _ .vmem, ⟨1, _⟩ => ⟨S1024x4, .f32⟩
  | .local _ .vmem, ⟨2, _⟩ => ⟨S512x1024, .f32⟩
  | .local _ .vmem, ⟨3, _⟩ => ⟨S2x1024x2048, .f32⟩
  | .local _ .vmem, ⟨4, _⟩ => ⟨S2x2048x1024, .f32⟩
  | .local _ .vmem, ⟨5, _⟩ => ⟨S512x1024, .f32⟩
  | .local _ .vmem, ⟨6, _⟩ => ⟨S2x1024x4, .f32⟩
  | .local _ .vmem, ⟨7, _⟩ => ⟨S512x1024, .f32⟩
  | .local _ .vmem, ⟨8, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v18 : BitVec 32 := Scalar.muli v2 c8_i32_5
  let v19 : BitVec 32 := Scalar.addi c0_i32 v18
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v20 : BitVec 32 := Scalar.muli v9 c4_i32_6
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v22 : BitVec 32 := Scalar.muli v8 c1_i32_7
  let v23 : BitVec 32 := Scalar.addi v21 v22
  v23.toNat
def k0_off1 (d0 : Dev nD) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : Index := Scalar.indexCast v5
  let c0_10 : Index := 0#32
  let c0_11 : Index := 0#32
  ![v26.toNat, 0, 0]
def k0_off2 (d0 : Dev nD) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_18 : BitVec 32 := 0#32
  let c0_i32_19 : BitVec 32 := 0#32
  ![v5.toNat, 0, 0]
def k0_dev2 (d0 : Dev nD) : Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_14 : BitVec 32 := 8#32
  let v30 : BitVec 32 := Scalar.muli v2 c8_i32_14
  let v31 : BitVec 32 := Scalar.addi c0_i32_15 v30
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_16 : BitVec 32 := 4#32
  let v32 : BitVec 32 := Scalar.muli v9 c4_i32_16
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v34 : BitVec 32 := Scalar.muli v8 c1_i32_17
  let v35 : BitVec 32 := Scalar.addi v33 v34
  v35.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v42 : BitVec 32 := Scalar.muli v2 c8_i32_22
  let v43 : BitVec 32 := Scalar.addi c0_i32_23 v42
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_24 : BitVec 32 := 4#32
  let v44 : BitVec 32 := Scalar.muli v9 c4_i32_24
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v46 : BitVec 32 := Scalar.muli v8 c1_i32_25
  let v47 : BitVec 32 := Scalar.addi v45 v46
  v47.toNat
def k0_dev4 (d0 : Dev nD) : Nat :=
  let c0_i32_279 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_278 : BitVec 32 := 8#32
  let v416 : BitVec 32 := Scalar.muli v2 c8_i32_278
  let v417 : BitVec 32 := Scalar.addi c0_i32_279 v416
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_280 : BitVec 32 := 4#32
  let v418 : BitVec 32 := Scalar.muli v9 c4_i32_280
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v420 : BitVec 32 := Scalar.muli v8 c1_i32_281
  let v421 : BitVec 32 := Scalar.addi v419 v420
  v421.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024x2x1 : Shape := ⟨3, ![1024, 2, 1]⟩
abbrev S1 : Shape := ⟨1, ![1]⟩
abbrev S1x1x1 : Shape := ⟨3, ![1, 1, 1]⟩
abbrev S1024 : Shape := ⟨1, ![1024]⟩
abbrev S1024x1 : Shape := ⟨2, ![1024, 1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩

abbrev nBuf : Space → Nat
  | .hbm => 325
  | .vmem => 0
  | .smem => 0
  | _ => 0

abbrev hbmTy0_0 (i : Nat) : BufTy := match i % 128 with
  | 0 => ⟨S1024x1024, .f32⟩
  | 1 => ⟨S1024x8, .f32⟩
  | 2 => ⟨S8x1024x2048, .f32⟩
  | 3 => ⟨S8x2048x1024, .f32⟩
  | 4 => ⟨S1024x8, .f32⟩
  | 5 => ⟨S1024x8, .f32⟩
  | 6 => ⟨S1024x8, .i32⟩
  | 7 => ⟨S1024x8, .f32⟩
  | 8 => ⟨S1024x8, .i32⟩
  | 9 => ⟨S1024x2, .i32⟩
  | 10 => ⟨S_, .i32⟩
  | 11 => ⟨S1024x2, .i32⟩
  | 12 => ⟨S1024x2, .i1⟩
  | 13 => ⟨S_, .i32⟩
  | 14 => ⟨S1024x2, .i32⟩
  | 15 => ⟨S1024x2, .i32⟩
  | 16 => ⟨S1024x2, .i32⟩
  | 17 => ⟨S1024x2x1, .i32⟩
  | 18 => ⟨S1, .i32⟩
  | 19 => ⟨S_, .i32⟩
  | 20 => ⟨S1024x2x1, .i32⟩
  | 21 => ⟨S1024x2x1, .i1⟩
  | 22 => ⟨S1x1x1, .i32⟩
  | 23 => ⟨S1024x2x1, .i32⟩
  | 24 => ⟨S1024x2x1, .i1⟩
  | 25 => ⟨S1024x2x1, .i1⟩
  | 26 => ⟨S_, .i1⟩
  | 27 => ⟨S1024x2, .i1⟩
  | 28 => ⟨S1024x2, .f32⟩
  | 29 => ⟨S_, .f32⟩
  | 30 => ⟨S1024x2, .f32⟩
  | 31 => ⟨S1024x2, .f32⟩
  | 32 => ⟨S_, .f32⟩
  | 33 => ⟨S1024, .f32⟩
  | 34 => ⟨S1024x1, .f32⟩
  | 35 => ⟨S1024x2, .f32⟩
  | 36 => ⟨S1024x2, .f32⟩
  | 37 => ⟨S1024x2, .f32⟩
  | 38 => ⟨S_, .f32⟩
  | 39 => ⟨S1024, .f32⟩
  | 40 => ⟨S1024x1, .f32⟩
  | 41 => ⟨S1024x2, .f32⟩
  | 42 => ⟨S1024x2, .f32⟩
  | 43 => ⟨S_, .f32⟩
  | 44 => ⟨S1024x1024, .f32⟩
  | 45 => ⟨S1x1024x2048, .f32⟩
  | 46 => ⟨S1024x2048, .f32⟩
  | 47 => ⟨S1024x2048, .f32⟩
  | 48 => ⟨S_, .f32⟩
  | 49 => ⟨S1024x2048, .f32⟩
  | 50 => ⟨S1024x2048, .f32⟩
  | 51 => ⟨S1x2048x1024, .f32⟩
  | 52 => ⟨S2048x1024, .f32⟩
  | 53 => ⟨S1024x1024, .f32⟩
  | 54 => ⟨S1024x1, .i32⟩
  | 55 => ⟨S_, .i32⟩
  | 56 => ⟨S1024x1, .i32⟩
  | 57 => ⟨S1024x1, .i1⟩
  | 58 => ⟨S1024x1, .f32⟩
  | 59 => ⟨S1024x1024, .f32⟩
  | 60 => ⟨S1024x1024, .f32⟩
  | 61 => ⟨S_, .f32⟩
  | 62 => ⟨S_, .f32⟩
  | 63 => ⟨S1024x1024, .i1⟩
  | 64 => ⟨S1024x1024, .f32⟩
  | 65 => ⟨S1024x1024, .f32⟩
  | 66 => ⟨S1024x1024, .f32⟩
  | 67 => ⟨S1024x1, .i32⟩
  | 68 => ⟨S_, .i32⟩
  | 69 => ⟨S1024x1, .i32⟩
  | 70 => ⟨S1024x1, .i1⟩
  | 71 => ⟨S1024x1, .f32⟩
  | 72 => ⟨S1024x1024, .f32⟩
  | 73 => ⟨S1024x1024, .f32⟩
  | 74 => ⟨S_, .f32⟩
  | 75 => ⟨S_, .f32⟩
  | 76 => ⟨S1024x1024, .i1⟩
  | 77 => ⟨S1024x1024, .f32⟩
  | 78 => ⟨S1024x1024, .f32⟩
  | 79 => ⟨S1024x1024, .f32⟩
  | 80 => ⟨S1x1024x2048, .f32⟩
  | 81 => ⟨S1024x2048, .f32⟩
  | 82 => ⟨S1024x2048, .f32⟩
  | 83 => ⟨S_, .f32⟩
  | 84 => ⟨S1024x2048, .f32⟩
  | 85 => ⟨S1024x2048, .f32⟩
  | 86 => ⟨S1x2048x1024, .f32⟩
  | 87 => ⟨S2048x1024, .f32⟩
  | 88 => ⟨S1024x1024, .f32⟩
  | 89 => ⟨S1024x1, .i32⟩
  | 90 => ⟨S_, .i32⟩
  | 91 => ⟨S1024x1, .i32⟩
  | 92 => ⟨S1024x1, .i1⟩
  | 93 => ⟨S1024x1, .f32⟩
  | 94 => ⟨S1024x1024, .f32⟩
  | 95 => ⟨S1024x1024, .f32⟩
  | 96 => ⟨S_, .f32⟩
  | 97 => ⟨S_, .f32⟩
  | 98 => ⟨S1024x1024, .i1⟩
  | 99 => ⟨S1024x1024, .f32⟩
  | 100 => ⟨S1024x1024, .f32⟩
  | 101 => ⟨S1024x1024, .f32⟩
  | 102 => ⟨S1024x1, .i32⟩
  | 103 => ⟨S_, .i32⟩
  | 104 => ⟨S1024x1, .i32⟩
  | 105 => ⟨S1024x1, .i1⟩
  | 106 => ⟨S1024x1, .f32⟩
  | 107 => ⟨S1024x1024, .f32⟩
  | 108 => ⟨S1024x1024, .f32⟩
  | 109 => ⟨S_, .f32⟩
  | 110 => ⟨S_, .f32⟩
  | 111 => ⟨S1024x1024, .i1⟩
  | 112 => ⟨S1024x1024, .f32⟩
  | 113 => ⟨S1024x1024, .f32⟩
  | 114 => ⟨S1024x1024, .f32⟩
  | 115 => ⟨S1x1024x2048, .f32⟩
  | 116 => ⟨S1024x2048, .f32⟩
  | 117 => ⟨S1024x2048, .f32⟩
  | 118 => ⟨S_, .f32⟩
  | 119 => ⟨S1024x2048, .f32⟩
  | 120 => ⟨S1024x2048, .f32⟩
  | 121 => ⟨S1x2048x1024, .f32⟩
  | 122 => ⟨S2048x1024, .f32⟩
  | 123 => ⟨S1024x1024, .f32⟩
  | 124 => ⟨S1024x1, .i32⟩
  | 125 => ⟨S_, .i32⟩
  | 126 => ⟨S1024x1, .i32⟩
  | 127 => ⟨S1024x1, .i1⟩
  | _ => ⟨S1024x1024, .f32⟩

abbrev hbmTy0_1 (i : Nat) : BufTy := match i % 128 with
  | 0 => ⟨S1024x1, .f32⟩
  | 1 => ⟨S1024x1024, .f32⟩
  | 2 => ⟨S1024x1024, .f32⟩
  | 3 => ⟨S_, .f32⟩
  | 4 => ⟨S_, .f32⟩
  | 5 => ⟨S1024x1024, .i1⟩
  | 6 => ⟨S1024x1024, .f32⟩
  | 7 => ⟨S1024x1024, .f32⟩
  | 8 => ⟨S1024x1024, .f32⟩
  | 9 => ⟨S1024x1, .i32⟩
  | 10 => ⟨S_, .i32⟩
  | 11 => ⟨S1024x1, .i32⟩
  | 12 => ⟨S1024x1, .i1⟩
  | 13 => ⟨S1024x1, .f32⟩
  | 14 => ⟨S1024x1024, .f32⟩
  | 15 => ⟨S1024x1024, .f32⟩
  | 16 => ⟨S_, .f32⟩
  | 17 => ⟨S_, .f32⟩
  | 18 => ⟨S1024x1024, .i1⟩
  | 19 => ⟨S1024x1024, .f32⟩
  | 20 => ⟨S1024x1024, .f32⟩
  | 21 => ⟨S1024x1024, .f32⟩
  | 22 => ⟨S1x1024x2048, .f32⟩
  | 23 => ⟨S1024x2048, .f32⟩
  | 24 => ⟨S1024x2048, .f32⟩
  | 25 => ⟨S_, .f32⟩
  | 26 => ⟨S1024x2048, .f32⟩
  | 27 => ⟨S1024x2048, .f32⟩
  | 28 => ⟨S1x2048x1024, .f32⟩
  | 29 => ⟨S2048x1024, .f32⟩
  | 30 => ⟨S1024x1024, .f32⟩
  | 31 => ⟨S1024x1, .i32⟩
  | 32 => ⟨S_, .i32⟩
  | 33 => ⟨S1024x1, .i32⟩
  | 34 => ⟨S1024x1, .i1⟩
  | 35 => ⟨S1024x1, .f32⟩
  | 36 => ⟨S1024x1024, .f32⟩
  | 37 => ⟨S1024x1024, .f32⟩
  | 38 => ⟨S_, .f32⟩
  | 39 => ⟨S_, .f32⟩
  | 40 => ⟨S1024x1024, .i1⟩
  | 41 => ⟨S1024x1024, .f32⟩
  | 42 => ⟨S1024x1024, .f32⟩
  | 43 => ⟨S1024x1024, .f32⟩
  | 44 => ⟨S1024x1, .i32⟩
  | 45 => ⟨S_, .i32⟩
  | 46 => ⟨S1024x1, .i32⟩
  | 47 => ⟨S1024x1, .i1⟩
  | 48 => ⟨S1024x1, .f32⟩
  | 49 => ⟨S1024x1024, .f32⟩
  | 50 => ⟨S1024x1024, .f32⟩
  | 51 => ⟨S_, .f32⟩
  | 52 => ⟨S_, .f32⟩
  | 53 => ⟨S1024x1024, .i1⟩
  | 54 => ⟨S1024x1024, .f32⟩
  | 55 => ⟨S1024x1024, .f32⟩
  | 56 => ⟨S1024x1024, .f32⟩
  | 57 => ⟨S1x1024x2048, .f32⟩
  | 58 => ⟨S1024x2048, .f32⟩
  | 59 => ⟨S1024x2048, .f32⟩
  | 60 => ⟨S_, .f32⟩
  | 61 => ⟨S1024x2048, .f32⟩
  | 62 => ⟨S1024x2048, .f32⟩
  | 63 => ⟨S1x2048x1024, .f32⟩
  | 64 => ⟨S2048x1024, .f32⟩
  | 65 => ⟨S1024x1024, .f32⟩
  | 66 => ⟨S1024x1, .i32⟩
  | 67 => ⟨S_, .i32⟩
  | 68 => ⟨S1024x1, .i32⟩
  | 69 => ⟨S1024x1, .i1⟩
  | 70 => ⟨S1024x1, .f32⟩
  | 71 => ⟨S1024x1024, .f32⟩
  | 72 => ⟨S1024x1024, .f32⟩
  | 73 => ⟨S_, .f32⟩
  | 74 => ⟨S_, .f32⟩
  | 75 => ⟨S1024x1024, .i1⟩
  | 76 => ⟨S1024x1024, .f32⟩
  | 77 => ⟨S1024x1024, .f32⟩
  | 78 => ⟨S1024x1024, .f32⟩
  | 79 => ⟨S1024x1, .i32⟩
  | 80 => ⟨S_, .i32⟩
  | 81 => ⟨S1024x1, .i32⟩
  | 82 => ⟨S1024x1, .i1⟩
  | 83 => ⟨S1024x1, .f32⟩
  | 84 => ⟨S1024x1024, .f32⟩
  | 85 => ⟨S1024x1024, .f32⟩
  | 86 => ⟨S_, .f32⟩
  | 87 => ⟨S_, .f32⟩
  | 88 => ⟨S1024x1024, .i1⟩
  | 89 => ⟨S1024x1024, .f32⟩
  | 90 => ⟨S1024x1024, .f32⟩
  | 91 => ⟨S1024x1024, .f32⟩
  | 92 => ⟨S1x1024x2048, .f32⟩
  | 93 => ⟨S1024x2048, .f32⟩
  | 94 => ⟨S1024x2048, .f32⟩
  | 95 => ⟨S_, .f32⟩
  | 96 => ⟨S1024x2048, .f32⟩
  | 97 => ⟨S1024x2048, .f32⟩
  | 98 => ⟨S1x2048x1024, .f32⟩
  | 99 => ⟨S2048x1024, .f32⟩
  | 100 => ⟨S1024x1024, .f32⟩
  | 101 => ⟨S1024x1, .i32⟩
  | 102 => ⟨S_, .i32⟩
  | 103 => ⟨S1024x1, .i32⟩
  | 104 => ⟨S1024x1, .i1⟩
  | 105 => ⟨S1024x1, .f32⟩
  | 106 => ⟨S1024x1024, .f32⟩
  | 107 => ⟨S1024x1024, .f32⟩
  | 108 => ⟨S_, .f32⟩
  | 109 => ⟨S_, .f32⟩
  | 110 => ⟨S1024x1024, .i1⟩
  | 111 => ⟨S1024x1024, .f32⟩
  | 112 => ⟨S1024x1024, .f32⟩
  | 113 => ⟨S1024x1024, .f32⟩
  | 114 => ⟨S1024x1, .i32⟩
  | 115 => ⟨S_, .i32⟩
  | 116 => ⟨S1024x1, .i32⟩
  | 117 => ⟨S1024x1, .i1⟩
  | 118 => ⟨S1024x1, .f32⟩
  | 119 => ⟨S1024x1024, .f32⟩
  | 120 => ⟨S1024x1024, .f32⟩
  | 121 => ⟨S_, .f32⟩
  | 122 => ⟨S_, .f32⟩
  | 123 => ⟨S1024x1024, .i1⟩
  | 124 => ⟨S1024x1024, .f32⟩
  | 125 => ⟨S1024x1024, .f32⟩
  | 126 => ⟨S1024x1024, .f32⟩
  | 127 => ⟨S1x1024x2048, .f32⟩
  | _ => ⟨S1024x1024, .f32⟩

abbrev hbmTy0_2 (i : Nat) : BufTy := match i % 128 with
  | 0 => ⟨S1024x2048, .f32⟩
  | 1 => ⟨S1024x2048, .f32⟩
  | 2 => ⟨S_, .f32⟩
  | 3 => ⟨S1024x2048, .f32⟩
  | 4 => ⟨S1024x2048, .f32⟩
  | 5 => ⟨S1x2048x1024, .f32⟩
  | 6 => ⟨S2048x1024, .f32⟩
  | 7 => ⟨S1024x1024, .f32⟩
  | 8 => ⟨S1024x1, .i32⟩
  | 9 => ⟨S_, .i32⟩
  | 10 => ⟨S1024x1, .i32⟩
  | 11 => ⟨S1024x1, .i1⟩
  | 12 => ⟨S1024x1, .f32⟩
  | 13 => ⟨S1024x1024, .f32⟩
  | 14 => ⟨S1024x1024, .f32⟩
  | 15 => ⟨S_, .f32⟩
  | 16 => ⟨S_, .f32⟩
  | 17 => ⟨S1024x1024, .i1⟩
  | 18 => ⟨S1024x1024, .f32⟩
  | 19 => ⟨S1024x1024, .f32⟩
  | 20 => ⟨S1024x1024, .f32⟩
  | 21 => ⟨S1024x1, .i32⟩
  | 22 => ⟨S_, .i32⟩
  | 23 => ⟨S1024x1, .i32⟩
  | 24 => ⟨S1024x1, .i1⟩
  | 25 => ⟨S1024x1, .f32⟩
  | 26 => ⟨S1024x1024, .f32⟩
  | 27 => ⟨S1024x1024, .f32⟩
  | 28 => ⟨S_, .f32⟩
  | 29 => ⟨S_, .f32⟩
  | 30 => ⟨S1024x1024, .i1⟩
  | 31 => ⟨S1024x1024, .f32⟩
  | 32 => ⟨S1024x1024, .f32⟩
  | 33 => ⟨S1024x1024, .f32⟩
  | 34 => ⟨S1x1024x2048, .f32⟩
  | 35 => ⟨S1024x2048, .f32⟩
  | 36 => ⟨S1024x2048, .f32⟩
  | 37 => ⟨S_, .f32⟩
  | 38 => ⟨S1024x2048, .f32⟩
  | 39 => ⟨S1024x2048, .f32⟩
  | 40 => ⟨S1x2048x1024, .f32⟩
  | 41 => ⟨S2048x1024, .f32⟩
  | 42 => ⟨S1024x1024, .f32⟩
  | 43 => ⟨S1024x1, .i32⟩
  | 44 => ⟨S_, .i32⟩
  | 45 => ⟨S1024x1, .i32⟩
  | 46 => ⟨S1024x1, .i1⟩
  | 47 => ⟨S1024x1, .f32⟩
  | 48 => ⟨S1024x1024, .f32⟩
  | 49 => ⟨S1024x1024, .f32⟩
  | 50 => ⟨S_, .f32⟩
  | 51 => ⟨S_, .f32⟩
  | 52 => ⟨S1024x1024, .i1⟩
  | 53 => ⟨S1024x1024, .f32⟩
  | 54 => ⟨S1024x1024, .f32⟩
  | 55 => ⟨S1024x1024, .f32⟩
  | 56 => ⟨S1024x1, .i32⟩
  | 57 => ⟨S_, .i32⟩
  | 58 => ⟨S1024x1, .i32⟩
  | 59 => ⟨S1024x1, .i1⟩
  | 60 => ⟨S1024x1, .f32⟩
  | 61 => ⟨S1024x1024, .f32⟩
  | 62 => ⟨S1024x1024, .f32⟩
  | 63 => ⟨S_, .f32⟩
  | 64 => ⟨S_, .f32⟩
  | 65 => ⟨S1024x1024, .i1⟩
  | 66 => ⟨S1024x1024, .f32⟩
  | 67 => ⟨S1024x1024, .f32⟩
  | 68 => ⟨S1024x1024, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_5 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_6 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_7 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_8 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_9 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_10 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_11 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_c_12 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_13 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_c_14 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_cst_15 : Ref sig .tc := ⟨.hbm, 144, rfl⟩
abbrev main_call7_v0 : Ref sig .tc := ⟨.hbm, 145, rfl⟩
abbrev main_call7_v1 : Ref sig .tc := ⟨.hbm, 146, rfl⟩
abbrev main_call7_v2 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_16 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_c_17 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_18 : Ref sig .tc := ⟨.hbm, 166, rfl⟩
abbrev main_call8_v0 : Ref sig .tc := ⟨.hbm, 167, rfl⟩
abbrev main_call8_v1 : Ref sig .tc := ⟨.hbm, 168, rfl⟩
abbrev main_call8_v2 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_c_19 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_cst_20 : Ref sig .tc := ⟨.hbm, 179, rfl⟩
abbrev main_call9_v0 : Ref sig .tc := ⟨.hbm, 180, rfl⟩
abbrev main_call9_v1 : Ref sig .tc := ⟨.hbm, 181, rfl⟩
abbrev main_call9_v2 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_cst_21 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_c_22 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_cst_23 : Ref sig .tc := ⟨.hbm, 201, rfl⟩
abbrev main_call10_v0 : Ref sig .tc := ⟨.hbm, 202, rfl⟩
abbrev main_call10_v1 : Ref sig .tc := ⟨.hbm, 203, rfl⟩
abbrev main_call10_v2 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_c_24 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_cst_25 : Ref sig .tc := ⟨.hbm, 214, rfl⟩
abbrev main_call11_v0 : Ref sig .tc := ⟨.hbm, 215, rfl⟩
abbrev main_call11_v1 : Ref sig .tc := ⟨.hbm, 216, rfl⟩
abbrev main_call11_v2 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_cst_26 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_c_27 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_cst_28 : Ref sig .tc := ⟨.hbm, 236, rfl⟩
abbrev main_call12_v0 : Ref sig .tc := ⟨.hbm, 237, rfl⟩
abbrev main_call12_v1 : Ref sig .tc := ⟨.hbm, 238, rfl⟩
abbrev main_call12_v2 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_c_29 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_cst_30 : Ref sig .tc := ⟨.hbm, 249, rfl⟩
abbrev main_call13_v0 : Ref sig .tc := ⟨.hbm, 250, rfl⟩
abbrev main_call13_v1 : Ref sig .tc := ⟨.hbm, 251, rfl⟩
abbrev main_call13_v2 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_cst_31 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_c_32 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_cst_33 : Ref sig .tc := ⟨.hbm, 271, rfl⟩
abbrev main_call14_v0 : Ref sig .tc := ⟨.hbm, 272, rfl⟩
abbrev main_call14_v1 : Ref sig .tc := ⟨.hbm, 273, rfl⟩
abbrev main_call14_v2 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_c_34 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_cst_35 : Ref sig .tc := ⟨.hbm, 284, rfl⟩
abbrev main_call15_v0 : Ref sig .tc := ⟨.hbm, 285, rfl⟩
abbrev main_call15_v1 : Ref sig .tc := ⟨.hbm, 286, rfl⟩
abbrev main_call15_v2 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_cst_36 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_c_37 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_cst_38 : Ref sig .tc := ⟨.hbm, 306, rfl⟩
abbrev main_call16_v0 : Ref sig .tc := ⟨.hbm, 307, rfl⟩
abbrev main_call16_v1 : Ref sig .tc := ⟨.hbm, 308, rfl⟩
abbrev main_call16_v2 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_c_39 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_cst_40 : Ref sig .tc := ⟨.hbm, 319, rfl⟩
abbrev main_call17_v0 : Ref sig .tc := ⟨.hbm, 320, rfl⟩
abbrev main_call17_v1 : Ref sig .tc := ⟨.hbm, 321, rfl⟩
abbrev main_call17_v2 : Ref sig .tc := ⟨.hbm, 322, rfl⟩
abbrev main_v205 : Ref sig .tc := ⟨.hbm, 323, rfl⟩
abbrev main_v206 : Ref sig .tc := ⟨.hbm, 324, rfl⟩

abbrev nD : Nat := 1
abbrev τ : Topo := Topo.v7x

variable {F : FTy → Type} [FloatOps F]
-- ==== Proof.Held.lean ====
/- Buffers held at named contents, and the kernel's loads, stores and local copies over them.

A memref is held at the array `X` when the core owns its elements and they hold `X`; a slot of a
two-slot buffer is the squeezed slice the kernel copies into, and a load of the parent at the slot's
rectangle reads the slot's array with a leading unit axis. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.VecWindow
public import Idealize.ShloMosaic.Lib.DeliveryRep
public import Idealize.ShloMosaic.Lib.Tactic

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The cells' rounds library, one duty a cell. -/
abbrev UB : Type := URounds (GSem nD τ sig) Unit
/-- The pipeline's copy, the cells' rounds, and the local copies' counters. -/
abbrev UU : Type := UR sig nD τ × (UB × Counters)

local notation "𝕄" => MT nD τ sig Unit (Elt F) ℕ UU ℕ

/-- The pipeline's copy of the rounds. -/
abbrev EP : Emb (UR sig nD τ) (MT nD τ sig Unit (Elt F) ℕ UU ℕ) := embL
/-- The cells' rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The counters the local copies draw their tokens from. -/
abbrev EC : UEmb Counters (MT nD τ sig Unit (Elt F) ℕ UU ℕ) := countersEmb

/-- The memref `M` of device `c` is held at share `q` and holds the array `X`. -/
def held (c : Dev nD) {sp : Space} {s : Shape} {e : EltTy} (M : Memref sig .tc sp s e) (q : PosShare TreeShare) (X : s.Idx → Elt F e) : sProp 𝕄 :=
  M.view.loc (c : Thread nD τ) ↦[M.view.set]{q} M.view.rep X

instance held_storable (c : Dev nD) {sp : Space} {s : Shape} {e : EltTy} (M : Memref sig .tc sp s e) (q : PosShare TreeShare) (X : s.Idx → Elt F e) :
    BI.Storable (upEmb : UEmb _ 𝕄) (held c M q X) := by unfold held; infer_instance

section Rules
variable (c : Dev nD) {sp sp' : Space} {s s' : Shape} {e : EltTy}

/-- Any contents under a memref are the contents it reads. -/
theorem held_of (M : Memref sig .tc sp s e) (q : PosShare TreeShare) (g : Buf (Elt F) (M.view.loc (c : Thread nD τ))) :
    (M.view.loc (c : Thread nD τ) ↦[M.view.set]{q} g : sProp 𝕄) = held c M q (M.view.read (Elt F) g) :=
  pointsTo_rep (c : Thread nD τ) M g q

/-- A whole buffer at contents `f` is its whole memref held at `f`. -/
theorem held_whole (b : Ref sig .tc) (q : PosShare TreeShare) (f : Buf (Elt F) ((c : Thread nD τ).loc b)) :
    ((c : Thread nD τ).loc b ↦{q} f : sProp 𝕄) = held c (Memref.whole b) q f := by
  have h := held_of (F := F) c (Memref.whole b) q f
  rw [show (Memref.whole b).view.read (Elt F) f = f from View.read_whole b f] at h
  rw [← h]
  show _ = ((c : Thread nD τ).loc b ↦[(View.whole b).set]{q} f : sProp 𝕄)
  rw [View.set_whole]

/-- Two half shares of one array are the whole share. -/
theorem held_halves (M : Memref sig .tc sp s e) (X : s.Idx → Elt F e) :
    (held c M fullShare X : sProp 𝕄) ⊣⊢ iprop(held c M fullShare.left X ∗ held c M fullShare.right X) :=
  pointsTo_share (PosShare.mem_left_op_right fullShare)

variable (defs : Defs nD τ sig (Elt F) Λ₀) (𝒱 : Variants)

/-- The array `X` with the leading unit axis a load of its slot reads. -/
def unsq {s s' : Shape} {e : EltTy} (h : s'.numel = s.numel) (X : s'.Idx → Elt F e) : s.Idx → Elt F e := shapeCast s X h.symm

/-- A load of a whole memref held at `X` reads `X`. -/
theorem load_whole {cs : CoreSpace} {M : Memref sig .tc cs s e} {off : Fin s.rank → ℕ} {inb : ∀ a, off a + s.size a ≤ s.size a}
    {hl : M.view.LoadsAt (Rect.unit off s.size inb).toLoadRect} {q : PosShare TreeShare} {X : s.Idx → Elt F e} {α : Type}
    {k : (s.Idx → Elt F e) → Prog (TpuEff nD τ sig (Elt F) Λ₀ .tc) α} {Q : α → sProp 𝕄} :
    held c M q X ⊢ iprop((held c M q X -∗ wp frame (wpE defs 𝒱 (c : Thread nD τ) none) Set.univ (k X) Q)
      -∗ wp frame (wpE defs 𝒱 (c : Thread nD τ) none) Set.univ (.op (.load M (Rect.unit off s.size inb).toLoadRect hl) k) Q) := by
  have hv : M.view.readAt (Elt F) (Rect.unit off s.size inb).toLoadRect (M.view.rep X) = X := View.readAt_rep_full M.view X inb
  have h : held c M q X ⊢ iprop((held c M q X -∗ wp frame (wpE defs 𝒱 (c : Thread nD τ) none) Set.univ
        (k (M.view.readAt (Elt F) (Rect.unit off s.size inb).toLoadRect (M.view.rep X))) Q)
      -∗ wp frame (wpE defs 𝒱 (c : Thread nD τ) none) Set.univ (.op (.load M (Rect.unit off s.size inb).toLoadRect hl) k) Q) :=
    wp_load 𝒱 (c : Thread nD τ) none Set.univ (m := M) (View.setOn_subset_set _ _)
  rw [hv] at h
  exact h

/-- A load of a parent buffer at its slot's rectangle, the slot held at `X`, reads `X` with the slot's unit axis. -/
theorem load_slot {cs : CoreSpace} {M : Memref sig .tc cs s e} {r : Rect s} {hr : ∀ a, r.stride a = 1} {hq : r.shape.Squeezes s'}
    {hl : M.view.LoadsAt r.toLoadRect} {q : PosShare TreeShare} {X : s'.Idx → Elt F e} {α : Type}
    {k : (r.shape.Idx → Elt F e) → Prog (TpuEff nD τ sig (Elt F) Λ₀ .tc) α} {Q : α → sProp 𝕄} (hn : s'.numel = r.shape.numel) :
    held c ((M.slice r hr).squeeze s' hq) q X
      ⊢ iprop((held c ((M.slice r hr).squeeze s' hq) q X -∗ wp frame (wpE defs 𝒱 (c : Thread nD τ) none) Set.univ (k (unsq hn X)) Q)
        -∗ wp frame (wpE defs 𝒱 (c : Thread nD τ) none) Set.univ (.op (.load M r.toLoadRect hl) k) Q) := by
  have hv : unsq hn X = M.view.readAt (Elt F) r.toLoadRect (((M.slice r hr).squeeze s' hq).view.rep X) := by
    have h1 := Memref.read_squeeze_slice M r hr hq hn (((M.slice r hr).squeeze s' hq).view.rep X)
    rw [View.read_rep] at h1
    unfold unsq
    exact (congrArg (fun V => shapeCast r.shape V hn.symm) h1).trans (shapeCast_shapeCast _ _ _)
  rw [hv]
  exact wp_load 𝒱 (c : Thread nD τ) none Set.univ (m := M)
    (by rw [Memref.set_view_squeeze]; exact Memref.setOn_subset_of_access_subset (c : Thread nD τ) subset_rfl)

/-- A store of the whole of a memref. -/
theorem store_whole {cs : CoreSpace} {M : Memref sig .tc cs s e} {r : Rect s} {w : r.shape.Idx → Elt F e} {w' : s.Idx → Elt F e}
    {hx : (M.access r).Stores Finset.univ} {hm} {X : s.Idx → Elt F e} {α : Type}
    {k : PUnit → Prog (TpuEff nD τ sig (Elt F) Λ₀ .tc) α} {Q : α → sProp 𝕄}
    (hw : ∀ f, M.view.read (Elt F) ((M.access r).write (Elt F) f w Finset.univ) = w') (hset : M.view.set = Finset.univ) :
    held c M fullShare X
      ⊢ iprop((held c M fullShare w' -∗ wp frame (wpE defs 𝒱 (c : Thread nD τ) none) Set.univ (k ⟨⟩) Q)
        -∗ wp frame (wpE defs 𝒱 (c : Thread nD τ) none) Set.univ (.op (.store M r w Finset.univ hx hm) k) Q) := by
  have h : held c M fullShare X
      ⊢ iprop(((M.view.loc (c : Thread nD τ) ↦[M.view.set]{fullShare} ((M.access r).write (Elt F) (M.view.rep X) w Finset.univ))
        -∗ wp frame (wpE defs 𝒱 (c : Thread nD τ) none) Set.univ (k ⟨⟩) Q)
      -∗ wp frame (wpE defs 𝒱 (c : Thread nD τ) none) Set.univ (.op (.store M r w Finset.univ hx hm) k) Q) :=
    wp_store 𝒱 (c : Thread nD τ) none Set.univ (m := M) (r := r) (w := w) (Mk := Finset.univ) (by rw [hset]; exact Finset.subset_univ _)
  rw [held_of, hw] at h
  exact h

/-- A store at a slot's rectangle, the slot held whole. -/
theorem store_slot {cs : CoreSpace} {M : Memref sig .tc cs s e} {r : Rect s} {hr : ∀ a, r.stride a = 1} {hq : r.shape.Squeezes s'}
    {w : r.shape.Idx → Elt F e} {hx : (M.access r).Stores Finset.univ} {hm} {X : s'.Idx → Elt F e} {α : Type}
    {k : PUnit → Prog (TpuEff nD τ sig (Elt F) Λ₀ .tc) α} {Q : α → sProp 𝕄} (hn : r.shape.ShapeCasts s') :
    held c ((M.slice r hr).squeeze s' hq) fullShare X
      ⊢ iprop((held c ((M.slice r hr).squeeze s' hq) fullShare (shapeCast s' w hn)
          -∗ wp frame (wpE defs 𝒱 (c : Thread nD τ) none) Set.univ (k ⟨⟩) Q)
        -∗ wp frame (wpE defs 𝒱 (c : Thread nD τ) none) Set.univ (.op (.store M r w Finset.univ hx hm) k) Q) := by
  have hv : ((M.slice r hr).squeeze s' hq).view.read (Elt F) ((M.access r).write (Elt F) (((M.slice r hr).squeeze s' hq).view.rep X) w Finset.univ)
      = shapeCast s' w hn := by
    rw [Memref.read_squeeze_slice M r hr hq hn]
    exact congrArg (fun v => shapeCast s' v hn) (View.read_write_univ _ _)
  have h : held c ((M.slice r hr).squeeze s' hq) fullShare X
      ⊢ iprop(((((M.slice r hr).squeeze s' hq).view.loc (c : Thread nD τ) ↦[((M.slice r hr).squeeze s' hq).view.set]{fullShare}
          ((M.access r).write (Elt F) (((M.slice r hr).squeeze s' hq).view.rep X) w Finset.univ))
        -∗ wp frame (wpE defs 𝒱 (c : Thread nD τ) none) Set.univ (k ⟨⟩) Q)
      -∗ wp frame (wpE defs 𝒱 (c : Thread nD τ) none) Set.univ (.op (.store M r w Finset.univ hx hm) k) Q) :=
    wp_store 𝒱 (c : Thread nD τ) none Set.univ (m := M) (r := r) (w := w) (Mk := Finset.univ)
      (by rw [Memref.set_view_squeeze]; exact View.setOn_subset_set _ _)
  rw [held_of, hv] at h
  exact h

/-- A local copy started: source held at any share, destination held whole, the semaphore at zero; what is in flight
    hands both back, the destination at the source's array. -/
theorem copy_start {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {q : PosShare TreeShare} {X Y : s.Idx → Elt F e} {α : Type}
    {k : PUnit → Prog (TpuEff nD τ sig (Elt F) Λ₀ .tc) α} {Q : α → sProp 𝕄} (hpos : 0 < dst.view.dmaCredit) :
    iprop(held c src q X ∗ held c dst fullShare Y ∗ semVal ((c : Thread nD τ), .dma sm) 0)
      ⊢ iprop((Transfers.Flight EC (c : Thread nD τ) (.dma sm) () dst.view.dmaCredit iprop(held c dst fullShare X ∗ held c src q X)
          -∗ wp frame (wpE defs 𝒱 (c : Thread nD τ) none) Set.univ (k ⟨⟩) Q)
        -∗ wp frame (wpE defs 𝒱 (c : Thread nD τ) none) Set.univ (.op (.enqueueDma src (.here dst) (.dma sm) hsrc hdst hsem) k) Q) := by
  have h := Transfers.wp_dmaLocal (defs := defs) (Q := Q) (bd := none) EC 𝒱 (c : Thread nD τ) (src := src) (dst := dst) (via := .same) (sm := .dma sm)
    (hsrc := hsrc) (hdst := hdst) (hsem := hsem) (k := k) (q := q) (fs := src.view.rep X) (Sd := dst.view.set) (fd := dst.view.rep Y)
    () dst.view.dmaCredit rfl hpos subset_rfl
  rw [show ReadAs.apply (Val := Elt F) ReadAs.same (src.view.read (Elt F) (src.view.rep X)) = X from View.read_rep _ _,
    held_of c dst fullShare (dst.view.write (Elt F) (dst.view.rep Y) X Finset.univ), View.read_write_univ] at h
  exact h

/-- A wait for a local copy while the core owes `O`: what was in flight, and the semaphore at zero again. -/
theorem copy_wait {sp₁ : Space} {s₁ : Shape} {e₁ : EltTy} {src : Memref sig .tc sp₁ s₁ e₁} {dst : Memref sig .tc sp' s e} {sm : DmaSem sig}
    {hsrc : src.view.WordExact} {hdst : dst.view.WordExact} {D : sProp 𝕄} {O : CellTallies nD τ sig Unit} {W : Waits sig Unit} {α : Type}
    {k : PUnit → Prog (TpuEff nD τ sig (Elt F) Λ₀ .tc) α} {Q : α → sProp 𝕄} :
    iprop(Transfers.Flight EC (c : Thread nD τ) (.dma sm) () dst.view.dmaCredit D ∗ owes (c : Thread nD τ) O W
        ∗ MayWait (c : Thread nD τ) (.dma sm) () O)
      ⊢ iprop((iprop(D ∗ semVal ((c : Thread nD τ), .dma sm) 0 ∗ owes (c : Thread nD τ) O (insert (SemLoc.dma sm, ()) W))
          -∗ wp frame (wpE defs 𝒱 (c : Thread nD τ) none) Set.univ (k ⟨⟩) Q)
        -∗ wp frame (wpE defs 𝒱 (c : Thread nD τ) none) Set.univ (.op (.waitDma2 sm src dst hsrc hdst) k) Q) :=
  Transfers.wp_waitLocalO EC 𝒱 (c : Thread nD τ) none () rfl

/-! ### A slice of a buffer held whole -/

/-- The array a slice of `X` at `r` holds, at the squeezed shape. -/
def part (s' : Shape) (r : Rect s) (hn : r.shape.ShapeCasts s') (X : s.Idx → Elt F e) : s'.Idx → Elt F e :=
  shapeCast s' (fun y => X (r.idx y)) hn

/-- A buffer held at `X` lends a slice, which holds its part of `X`, and takes it back. -/
theorem held_lend {M : Memref sig .tc sp s e} {r : Rect s} {hr : ∀ a, r.stride a = 1} {hq : r.shape.Squeezes s'} (hn : r.shape.ShapeCasts s')
    (q : PosShare TreeShare) (X : s.Idx → Elt F e) :
    (held c M q X : sProp 𝕄) ⊣⊢ iprop(held c ((M.slice r hr).squeeze s' hq) q (part s' r hn X)
      ∗ (M.view.loc (c : Thread nD τ) ↦[M.view.set \ ((M.slice r hr).squeeze s' hq).view.set]{q} M.view.rep X)) := by
  have hsub : ((M.slice r hr).squeeze s' hq).view.set ⊆ M.view.set := by
    rw [Memref.set_view_squeeze]; exact (View.set_slice _ _).trans_subset (View.setOn_subset_set _ _)
  have hv : ((M.slice r hr).squeeze s' hq).view.read (Elt F) (M.view.rep X) = part s' r hn X := by
    rw [Memref.read_squeeze_slice M r hr hq hn]
    unfold part
    exact congrArg (fun v => shapeCast s' v hn) (View.readAt_rep _ _ _)
  have h := pointsTo_split_subset (Ix := Unit) (Name := ℕ) (U := UU) (Lvl := ℕ) (ℓ := M.view.loc (c : Thread nD τ)) (q := q) (f := M.view.rep X) hsub
  rw [← hv, ← held_of]
  exact h

/-- A part's slot read back through its parent has the slice's own index. -/
theorem unsq_part {r : Rect s} (hn : r.shape.ShapeCasts s') (hn' : s'.numel = r.shape.numel) (X : s.Idx → Elt F e) :
    unsq hn' (part s' r hn X) = fun y => X (r.idx y) := by
  unfold unsq part
  exact shapeCast_shapeCast _ _ _

/-- A slice of the buffer `M` (held at share `q` at `X`) on its way to `dst` on the semaphore `sm`. -/
def fetching (M : Memref sig .tc sp s e) (r : Rect s) (hr : ∀ a, r.stride a = 1) (hq : r.shape.Squeezes s') (hn : r.shape.ShapeCasts s')
    (dst : Memref sig .tc sp' s' e) (sm : DmaSem sig) (q : PosShare TreeShare) (X : s.Idx → Elt F e) : sProp 𝕄 :=
  iprop(Transfers.Flight EC (c : Thread nD τ) (.dma sm) () dst.view.dmaCredit
      iprop(held c dst fullShare (part s' r hn X) ∗ held c ((M.slice r hr).squeeze s' hq) q (part s' r hn X))
    ∗ (M.view.loc (c : Thread nD τ) ↦[M.view.set \ ((M.slice r hr).squeeze s' hq).view.set]{q} M.view.rep X))

/-- A slice's copy started, its buffer held at `X`. -/
theorem fetch_start {M : Memref sig .tc sp s e} {r : Rect s} {hr : ∀ a, r.stride a = 1} {hq : r.shape.Squeezes s'} (hn : r.shape.ShapeCasts s')
    {dst : Memref sig .tc sp' s' e} {sm : DmaSem sig}
    {hsrc : ((M.slice r hr).squeeze s' hq).view.WordExact} {hdst : dst.view.WordExact}
    {hsem : DmaTarget.Typed (nD := nD) (τ := τ) (p := .tc) sp (.dma sm) (.here dst)}
    {q : PosShare TreeShare} {X : s.Idx → Elt F e} {Y : s'.Idx → Elt F e} {α : Type}
    {k : PUnit → Prog (TpuEff nD τ sig (Elt F) Λ₀ .tc) α} {Q : α → sProp 𝕄} (hpos : 0 < s'.numel) :
    iprop(held c M q X ∗ held c dst fullShare Y ∗ semVal ((c : Thread nD τ), .dma sm) 0)
      ⊢ iprop((fetching c M r hr hq hn dst sm q X -∗ wp frame (wpE defs 𝒱 (c : Thread nD τ) none) Set.univ (k ⟨⟩) Q)
        -∗ wp frame (wpE defs 𝒱 (c : Thread nD τ) none) Set.univ
          (.op (.enqueueDma ((M.slice r hr).squeeze s' hq) (.here dst) (.dma sm) hsrc hdst hsem) k) Q) := by
  iintro ⟨HM, Hd, Hv⟩ Hk
  ihave H2 := (held_lend c (hr := hr) (hq := hq) hn q X).1 $$ HM
  icases H2 with ⟨Hs, Hr⟩
  iapply (copy_start c defs 𝒱 (View.dmaCredit_pos _ hpos)) $$ [Hs Hd Hv]
  · isplitl [Hs]; · iexact Hs
    isplitl [Hd] <;> iassumption
  iintro HF
  iapply Hk
  unfold fetching
  isplitl [HF] <;> iassumption

/-- The wait for a slice's copy: the buffer whole again, the destination at the slice, the semaphore at zero. -/
theorem fetch_wait {M : Memref sig .tc sp s e} {r : Rect s} {hr : ∀ a, r.stride a = 1} {hq : r.shape.Squeezes s'} {hn : r.shape.ShapeCasts s'}
    {dst : Memref sig .tc sp' s' e} {sm : DmaSem sig} {sp₁ : Space} {s₁ : Shape} {e₁ : EltTy} {src : Memref sig .tc sp₁ s₁ e₁}
    {hsrc : src.view.WordExact} {hdst : dst.view.WordExact}
    {q : PosShare TreeShare} {X : s.Idx → Elt F e} {O : CellTallies nD τ sig Unit} {W : Waits sig Unit} {α : Type}
    {k : PUnit → Prog (TpuEff nD τ sig (Elt F) Λ₀ .tc) α} {Q : α → sProp 𝕄} :
    iprop(fetching c M r hr hq hn dst sm q X ∗ owes (c : Thread nD τ) O W ∗ MayWait (c : Thread nD τ) (.dma sm) () O)
      ⊢ iprop((iprop(held c M q X ∗ held c dst fullShare (part s' r hn X) ∗ semVal ((c : Thread nD τ), .dma sm) 0
            ∗ owes (c : Thread nD τ) O (insert (SemLoc.dma sm, ()) W))
          -∗ wp frame (wpE defs 𝒱 (c : Thread nD τ) none) Set.univ (k ⟨⟩) Q)
        -∗ wp frame (wpE defs 𝒱 (c : Thread nD τ) none) Set.univ (.op (.waitDma2 sm src dst hsrc hdst) k) Q) := by
  unfold fetching
  iintro ⟨⟨HF, Hr⟩, HO, Hm⟩ Hk
  iapply (copy_wait c defs 𝒱) $$ [HF HO Hm]
  · isplitl [HF]; · iexact HF
    isplitl [HO] <;> iassumption
  iintro ⟨⟨Hd, Hs⟩, Hv, HO⟩
  iapply Hk
  isplitl [Hs Hr]
  · iapply (held_lend c (hr := hr) (hq := hq) hn q X).2 $$ [Hs Hr]
    isplitl [Hs] <;> iassumption
  isplitl [Hd]; · iexact Hd
  isplitl [Hv] <;> iassumption

end Rules

end Cert.MoeProof
end
-- ==== Proof.Protocol.lean ====
/- The two devices' protocol, stated before the run.

Device `c` works with one peer, the device whose middle mesh coordinate is the other one. The peers signal each
other's barrier, which hands over the three landing buffers; each then copies its router block, its token block and,
once it is computed, its experts' contribution to the peer's tokens into the peer's buffers. Every cell has one duty:

* the barrier cell: one unit, from the peer's signal, with the peer's landing buffers (any contents);
* a send cell: the copy's credit, from the device's own copy, with the source back;
* a receive cell: the copy's credit, from the peer's copy, with the landed array.

A device owes its peer the barrier's unit and the three receive credits, and pays them in that order: barrier, router,
tokens, contribution. -/
module

public import proofs.«01_k».proof.Proof.Held

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The peer -/

set_option backward.proofsInPublic true in
/-- The device of the same outer and inner mesh coordinates and the other middle one. -/
def peer (c : Dev nD) : Dev nD := ⟨(8 * (c.val / 8) + (c.val % 4) + 4) - 4 * ((c.val / 4) % 2), by have := c.isLt; unfold nD at *; omega⟩

theorem peer_peer (c : Dev nD) : peer (peer c) = c := by revert c; decide

/-- The pairing of the mesh. -/
def pairing : Dev nD ≃ Dev nD := ⟨peer, peer, peer_peer, peer_peer⟩

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)

set_option backward.proofsInPublic true in
/-- The member of `c`'s pair whose middle coordinate is `y`. -/
def member (c : Dev nD) (y : Fin 2) : Dev nD := ⟨8 * (c.val / 8) + 4 * y.val + c.val % 4, by have := c.isLt; have := y.isLt; unfold nD at *; omega⟩

/-- Which of its pair a device is. -/
theorem place (c : Dev nD) :
    (k0_off2 c = ![0, 0, 0] ∧ k0_off2 (peer c) = ![1, 0, 0] ∧ member c 0 = c ∧ member c 1 = peer c)
      ∨ (k0_off2 c = ![1, 0, 0] ∧ k0_off2 (peer c) = ![0, 0, 0] ∧ member c 1 = c ∧ member c 0 = peer c) := by
  revert c; decide +kernel

theorem off1_eq (c : Dev nD) : k0_off1 c = k0_off2 c := (k0_off1_eq c).trans (k0_off2_eq c).symm

/-! ## The memrefs and cells -/

abbrev xM : Memref sig .tc .vmem S512x1024 .f32 := Memref.whole cc0_stg0_0
abbrev rtM : Memref sig .tc .vmem S1024x4 .f32 := Memref.whole cc0_stg1_0
abbrev oM : Memref sig .tc .vmem S512x1024 .f32 := Memref.whole cc0_stg2_0
abbrev w1M : Memref sig .tc .vmem S2x1024x2048 .f32 := Memref.whole cc0_scratch0
abbrev w2M : Memref sig .tc .vmem S2x2048x1024 .f32 := Memref.whole cc0_scratch1
abbrev xaM : Memref sig .tc .vmem S512x1024 .f32 := Memref.whole cc0_scratch2
abbrev rfM : Memref sig .tc .vmem S2x1024x4 .f32 := Memref.whole cc0_scratch3
abbrev ppM : Memref sig .tc .vmem S512x1024 .f32 := Memref.whole cc0_scratch4
abbrev rvM : Memref sig .tc .vmem S512x1024 .f32 := Memref.whole cc0_scratch5
abbrev e1M : Memref sig .tc .hbm S4x1024x2048 .f32 := Memref.whole main_arg2
abbrev e2M : Memref sig .tc .hbm S4x2048x1024 .f32 := Memref.whole main_arg3

/-- A slot of the router buffer. -/
abbrev rfS (off : Fin 3 → ℕ) (inb : ∀ a, off a + S1x1024x4.size a ≤ S2x1024x4.size a) : Memref sig .tc .vmem S1024x4 .f32 :=
  (rfM.slice (Rect.unit (s := S2x1024x4) off S1x1024x4.size inb) (fun _ => rfl)).squeeze S1024x4 squeezes_S1x1024x4_S1024x4

/-- The slot that device `c`'s own router block fills, here or at its peer. -/
abbrev rfD (c : Dev nD) : Memref sig .tc .vmem S1024x4 .f32 := rfS (k0_off2 c) (k0_off2_inb c)

abbrev barS : Sem sig := (SemArray.scalar (sig.barrier 0 rfl) : Sems sig S_).sem
abbrev rS : DmaSem sig := ((cc0_scratch6.slice (Rect.unit (s := S2) ![0] S1.size inb_S2_S1_0)).squeeze S_ squeezes_S1_S_).sem
abbrev rV : DmaSem sig := ((cc0_scratch6.slice (Rect.unit (s := S2) ![1] S1.size inb_S2_S1_1)).squeeze S_ squeezes_S1_S_).sem
abbrev xS : DmaSem sig := ((cc0_scratch7.slice (Rect.unit (s := S2) ![0] S1.size inb_S2_S1_0)).squeeze S_ squeezes_S1_S_).sem
abbrev xV : DmaSem sig := ((cc0_scratch7.slice (Rect.unit (s := S2) ![1] S1.size inb_S2_S1_1)).squeeze S_ squeezes_S1_S_).sem
abbrev pS : DmaSem sig := ((cc0_scratch8.slice (Rect.unit (s := S2) ![0] S1.size inb_S2_S1_0)).squeeze S_ squeezes_S1_S_).sem
abbrev pV : DmaSem sig := ((cc0_scratch8.slice (Rect.unit (s := S2) ![1] S1.size inb_S2_S1_1)).squeeze S_ squeezes_S1_S_).sem
abbrev wA : DmaSem sig := ((cc0_scratch9.slice (Rect.unit (s := S4) ![0] S1.size inb_S4_S1_0)).squeeze S_ squeezes_S1_S_).sem
abbrev wB : DmaSem sig := ((cc0_scratch9.slice (Rect.unit (s := S4) ![1] S1.size inb_S4_S1_1)).squeeze S_ squeezes_S1_S_).sem
abbrev wC : DmaSem sig := ((cc0_scratch9.slice (Rect.unit (s := S4) ![2] S1.size inb_S4_S1_2)).squeeze S_ squeezes_S1_S_).sem
abbrev wD : DmaSem sig := ((cc0_scratch9.slice (Rect.unit (s := S4) ![3] S1.size inb_S4_S1_3)).squeeze S_ squeezes_S1_S_).sem

/-- The protocol's seven semaphores: barrier; router, token and contribution copies, sent and received. -/
abbrev csem : Fin 7 → SemLoc sig := ![.reg barS, .dma rS, .dma rV, .dma xS, .dma xV, .dma pS, .dma pV]
abbrev kcell (ck : Dev nD × Fin 7) : GSem nD τ sig := ((ck.1 : Thread nD τ), csem ck.2)
/-- The kernel's own scoped semaphores: the six of the remote copies, the four of the weights' local copies. -/
abbrev osem : Fin 10 → SemLoc sig := ![.dma rS, .dma rV, .dma xS, .dma xV, .dma pS, .dma pV, .dma wA, .dma wB, .dma wC, .dma wD]

/-- Which of the seven a semaphore is. -/
def place7 (s : SemLoc sig) : Option (Fin 7) :=
  if s = .reg barS then some 0 else if s = .dma rS then some 1 else if s = .dma rV then some 2 else if s = .dma xS then some 3
  else if s = .dma xV then some 4 else if s = .dma pS then some 5 else if s = .dma pV then some 6 else none

theorem place7_csem (k : Fin 7) : place7 (csem k) = some k := by revert k; decide

/-! ## Contents -/

variable (m : (ℓ : Loc nD τ sig) → Buf (Elt F) ℓ)

/-- Device `c`'s tokens. -/
def xB (c : Dev nD) : S512x1024.Idx → Elt F .f32 :=
  (win0_0.blk (0 : Fin 1)).view.read (Elt F) (m ((c : Thread nD τ).loc main_arg0))
/-- Device `c`'s router block. -/
def rB (c : Dev nD) : S1024x4.Idx → Elt F .f32 :=
  (win0_1.blk (0 : Fin 1)).view.read (Elt F) (m ((c : Thread nD τ).loc main_arg1))
/-- Device `c`'s experts' first and second layers. -/
def w1B (c : Dev nD) : S4x1024x2048.Idx → Elt F .f32 := m ((c : Thread nD τ).loc main_arg2)
def w2B (c : Dev nD) : S4x2048x1024.Idx → Elt F .f32 := m ((c : Thread nD τ).loc main_arg3)

/-- The experts' rectangles in the weights. -/
abbrev r1 (off : Fin 3 → ℕ) (inb : ∀ a, off a + S1x1024x2048.size a ≤ S4x1024x2048.size a) : Rect S4x1024x2048 := Rect.unit (s := S4x1024x2048) off S1x1024x2048.size inb
abbrev r2 (off : Fin 3 → ℕ) (inb : ∀ a, off a + S1x2048x1024.size a ≤ S4x2048x1024.size a) : Rect S4x2048x1024 := Rect.unit (s := S4x2048x1024) off S1x2048x1024.size inb

/-- The middle mesh coordinate as the kernel computes it. -/
def yW (c : Dev nD) : BitVec 32 := Scalar.remsi (Scalar.divsi (Dev.word c) 4#32) 2#32

/-- The slot positions' iota. -/
def slots : IVec S512x192 32 := iota .tc S512x192 32 [1] iota_S512x192_d1_w32

/-- The experts' contribution to a block `x` of tokens that the device of coordinate `y` computes first: its four
    experts in order, from the whole router `r` and the experts' two layers. -/
def contribA (y : BitVec 32) (r : FVec F S1024x8 .f32) (x : Vec F S512x1024 .f32)
    (p0 p1 p2 p3 : Vec F S1x1024x2048 .f32) (q0 q1 q2 q3 : Vec F S1x2048x1024 .f32) : FVec F S512x1024 .f32 :=
  k0_pay38
    (k0_pay34
      (k0_pay30
        (k0_pay26 slots x (k0_pay23 y (k0_pay16 r x) (k0_pay19 r x) (k0_pay21 r x) (k0_pay22 r x)) (k0_pay24 y (k0_pay16 r x) (k0_pay19 r x))
          (k0_pay25 y (k0_pay1 (F := F)) (k0_pay16 r x) (k0_pay19 r x)) p0 q0)
        (k0_pay28 y (k0_pay1 (F := F)) slots x (k0_pay16 r x) (k0_pay19 r x) 4#32 p1 q1)
        (k0_pay29 y (k0_pay1 (F := F)) slots (k0_pay16 r x) (k0_pay19 r x) (k0_pay21 r x) (k0_pay22 r x) 4#32))
      (k0_pay32 y (k0_pay1 (F := F)) slots x (k0_pay16 r x) (k0_pay19 r x) 4#32 p2 q2)
      (k0_pay33 y (k0_pay1 (F := F)) slots (k0_pay16 r x) (k0_pay19 r x) (k0_pay21 r x) (k0_pay22 r x) 4#32))
    (k0_pay36 y (k0_pay1 (F := F)) slots x (k0_pay16 r x) (k0_pay19 r x) 4#32 p3 q3)
    (k0_pay37 y (k0_pay1 (F := F)) slots (k0_pay16 r x) (k0_pay19 r x) (k0_pay21 r x) (k0_pay22 r x) 4#32)

/-- The block the device of coordinate `y` stores for its own tokens `x`: its experts 2, 3, 0, 1 and what its peer sent. -/
def contribB (y : BitVec 32) (r : FVec F S1024x8 .f32) (x : Vec F S512x1024 .f32)
    (p0 p1 p2 p3 : Vec F S1x1024x2048 .f32) (q0 q1 q2 q3 : Vec F S1x2048x1024 .f32) (rcv : Vec F S512x1024 .f32) : FVec F S512x1024 .f32 :=
  k0_pay55 slots (k0_pay4 x)
    (k0_pay51 slots (k0_pay4 x)
      (k0_pay47 slots (k0_pay4 x)
        (k0_pay43 (k0_pay4 x) (k0_pay39 y (k0_pay7 r x) (k0_pay10 r x) (k0_pay12 r x) (k0_pay13 r x))
          (k0_pay41 y (k0_pay1 (F := F)) slots (k0_pay7 r x) (k0_pay10 r x)) (k0_pay42 y (k0_pay7 r x) (k0_pay10 r x)) p2 q2)
        (k0_pay44 y (k0_pay7 r x) (k0_pay10 r x) (k0_pay12 r x) (k0_pay13 r x)) (k0_pay45 y (k0_pay7 r x) (k0_pay10 r x))
        (k0_pay46 y (k0_pay1 (F := F)) (k0_pay7 r x) (k0_pay10 r x)) p3 q3)
      (k0_pay48 y (k0_pay7 r x) (k0_pay10 r x) (k0_pay12 r x) (k0_pay13 r x)) (k0_pay49 y (k0_pay7 r x) (k0_pay10 r x))
      (k0_pay50 y (k0_pay1 (F := F)) (k0_pay7 r x) (k0_pay10 r x)) p0 q0)
    (k0_pay52 y (k0_pay7 r x) (k0_pay10 r x) (k0_pay12 r x) (k0_pay13 r x)) (k0_pay53 y (k0_pay7 r x) (k0_pay10 r x))
    (k0_pay54 y (k0_pay1 (F := F)) (k0_pay7 r x) (k0_pay10 r x)) p1 q1 rcv

/-- An expert's two layers as a slot's load reads them. -/
def p0 (W : S4x1024x2048.Idx → Elt F .f32) : Vec F S1x1024x2048 .f32 := fun y => W ((r1 ![0, 0, 0] inb_S4x1024x2048_S1x1024x2048_0_0_0).idx y)
def p1 (W : S4x1024x2048.Idx → Elt F .f32) : Vec F S1x1024x2048 .f32 := fun y => W ((r1 ![1, 0, 0] inb_S4x1024x2048_S1x1024x2048_1_0_0).idx y)
def p2 (W : S4x1024x2048.Idx → Elt F .f32) : Vec F S1x1024x2048 .f32 := fun y => W ((r1 ![2, 0, 0] inb_S4x1024x2048_S1x1024x2048_2_0_0).idx y)
def p3 (W : S4x1024x2048.Idx → Elt F .f32) : Vec F S1x1024x2048 .f32 := fun y => W ((r1 ![3, 0, 0] inb_S4x1024x2048_S1x1024x2048_3_0_0).idx y)
def q0 (W : S4x2048x1024.Idx → Elt F .f32) : Vec F S1x2048x1024 .f32 := fun y => W ((r2 ![0, 0, 0] inb_S4x2048x1024_S1x2048x1024_0_0_0).idx y)
def q1 (W : S4x2048x1024.Idx → Elt F .f32) : Vec F S1x2048x1024 .f32 := fun y => W ((r2 ![1, 0, 0] inb_S4x2048x1024_S1x2048x1024_1_0_0).idx y)
def q2 (W : S4x2048x1024.Idx → Elt F .f32) : Vec F S1x2048x1024 .f32 := fun y => W ((r2 ![2, 0, 0] inb_S4x2048x1024_S1x2048x1024_2_0_0).idx y)
def q3 (W : S4x2048x1024.Idx → Elt F .f32) : Vec F S1x2048x1024 .f32 := fun y => W ((r2 ![3, 0, 0] inb_S4x2048x1024_S1x2048x1024_3_0_0).idx y)

/-- The whole router, as device `c` reads it from its two slots. -/
def rF (c : Dev nD) : FVec F S1024x8 .f32 :=
  k0_pay3 (unsq (s := S1x1024x4) (s' := S1024x4) rfl (rB m (member c 0))) (unsq (s := S1x1024x4) (s' := S1024x4) rfl (rB m (member c 1)))

/-- What device `c` sends its peer: its experts' contribution to the peer's tokens. -/
def sentB (c : Dev nD) : S512x1024.Idx → Elt F .f32 :=
  contribA (yW c) (rF m c) (xB m (peer c)) (p0 (w1B m c)) (p1 (w1B m c)) (p2 (w1B m c)) (p3 (w1B m c))
    (q0 (w2B m c)) (q1 (w2B m c)) (q2 (w2B m c)) (q3 (w2B m c))

/-- The kernel's result block on device `c`. -/
def outB (c : Dev nD) : S512x1024.Idx → Elt F .f32 :=
  contribB (yW c) (rF m c) (xB m c) (p0 (w1B m c)) (p1 (w1B m c)) (p2 (w1B m c)) (p3 (w1B m c))
    (q0 (w2B m c)) (q1 (w2B m c)) (q2 (w2B m c)) (q3 (w2B m c)) (sentB m (peer c))

/-! ## The schedule -/

/-- The copies' credits: a router block's, a token block's, a contribution's. -/
abbrev NR : ℕ := (cc0_scratch3 : Ref sig .tc).dmaCredit S1024x4 .f32
abbrev NX : ℕ := (cc0_scratch2 : Ref sig .tc).dmaCredit S512x1024 .f32
abbrev NP : ℕ := (cc0_scratch5 : Ref sig .tc).dmaCredit S512x1024 .f32

theorem NR_pos : 0 < NR := by decide
theorem NX_pos : 0 < NX := by decide
theorem NP_pos : 0 < NP := by decide

/-- The units of a cell's one duty. -/
abbrev amt : Fin 7 → ℕ := ![1, NR, NR, NX, NX, NP, NP]

theorem amt_pos (k : Fin 7) : 0 < amt k := by
  fin_cases k
  exacts [Nat.one_pos, NR_pos, NR_pos, NX_pos, NX_pos, NP_pos, NP_pos]

/-- What a cell of device `c` hands over at its wait. -/
def pay (c : Dev nD) : Fin 7 → sProp 𝕄 :=
  ![iprop((∃ X, held (F := F) (peer c) xaM fullShare X) ∗ (∃ X, held (F := F) (peer c) (rfD c) fullShare X) ∗ (∃ X, held (F := F) (peer c) rvM fullShare X)),
    held c rtM fullShare (rB m c),
    held c (rfD (peer c)) fullShare (rB m (peer c)),
    held c xM fullShare.left (xB m c),
    held c xaM fullShare (xB m (peer c)),
    held c ppM fullShare (sentB m c),
    held c rvM fullShare (sentB m (peer c))]

instance pay_storable (c : Dev nD) (k : Fin 7) : BI.Storable (upEmb : UEmb _ 𝕄) (pay m c k) := by
  fin_cases k <;> (dsimp [pay]; infer_instance)

/-- What the semaphore `s` of device `c` hands over. -/
def payAt (c : Dev nD) : Option (Fin 7) → sProp 𝕄
  | none => iprop(emp)
  | some k => pay m c k

instance payAt_storable (c : Dev nD) (o : Option (Fin 7)) : BI.Storable (upEmb : UEmb _ 𝕄) (payAt m c o) := by
  cases o <;> (unfold payAt; infer_instance)

/-- The units of a semaphore's duty. -/
def amtAt : Option (Fin 7) → ℕ
  | none => 1
  | some k => amt k

/-- One round, round 0: each of a device's seven cells has one duty. -/
def Rd : Rounds.Schedule (GSem nD τ sig) Unit 𝕄 where
  duties g r := if r = 0 ∧ g.1.2 = .tc ∧ (place7 g.2).isSome then {()} else ∅
  unitless _ := False
  amount g _ _ := amtAt (place7 g.2)
  payload g _ _ := payAt m g.1.1 (place7 g.2)
  amount_pos g _ _ _ := by
    show 0 < amtAt (place7 g.2)
    cases h : place7 g.2 with
    | none => exact Nat.one_pos
    | some k => exact amt_pos k

instance Rd_payload_storable (g : GSem nD τ sig) (r : ℕ) (d : Unit) : BI.Storable (upEmb : UEmb _ 𝕄) ((Rd (F := F) m).payload g r d) := by
  show BI.Storable _ (payAt m g.1.1 (place7 g.2)); infer_instance

section Sched
variable (c : Dev nD) (k : Fin 7)

theorem duties_cell : (Rd (F := F) m).duties (kcell (c, k)) 0 = {()} := by
  dsimp only [Rd]; exact if_pos ⟨rfl, rfl, by rw [place7_csem]; rfl⟩
theorem duties_later (g : GSem nD τ sig) : ∀ r, 1 ≤ r → (Rd (F := F) m).duties g r = ∅ :=
  fun r hr => by dsimp only [Rd]; exact if_neg fun h => by omega
theorem amount_cell (d : Unit) : (Rd (F := F) m).amount (kcell (c, k)) 0 d = amt k := by
  dsimp only [Rd]; rw [place7_csem]; rfl
theorem payload_cell (d : Unit) : (Rd (F := F) m).payload (kcell (c, k)) 0 d = pay m c k := by
  dsimp only [Rd]; rw [place7_csem]; rfl
theorem expect_cell : (Rd (F := F) m).expect (kcell (c, k)) 0 = amt k := by
  unfold Schedule.expect Schedule.amountOf; rw [duties_cell, Finset.sum_singleton, amount_cell]
theorem rest_cell : bigSep ((Rd (F := F) m).duties (kcell (c, k)) 0 \ ∅) (fun d => (Rd (F := F) m).payload (kcell (c, k)) 0 d) = pay m c k := by
  rw [Finset.sdiff_empty, duties_cell, bigSep_singleton, payload_cell]

end Sched

/-! ## What a device owes; the levels -/

/-- After its barrier's signal and its two first copies: the contribution's credit. -/
def OP (c : Dev nD) : CellTallies nD τ sig Unit := tallyAt (kcell (peer c, 6)) () NP
def OX (c : Dev nD) : CellTallies nD τ sig Unit := OP c + tallyAt (kcell (peer c, 4)) () NX
def OR (c : Dev nD) : CellTallies nD τ sig Unit := OX c + tallyAt (kcell (peer c, 2)) () NR
def O₀ (c : Dev nD) : CellTallies nD τ sig Unit := OR c + tallyAt (kcell (peer c, 0)) () 1

def L (g : GSem nD τ sig) : Finset Unit := if g.1.2 = .tc then {()} else ∅

/-- A semaphore's level: the barrier below the router's and tokens' arrivals, those below the contribution's, all else at zero. -/
def lev (s : SemLoc sig) : ℕ :=
  if s = .reg barS then 1 else if s = .dma rV then 2 else if s = .dma xV then 2 else if s = .dma pV then 3 else 0
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl

theorem tally_pos {c : Dev nD} {k : Fin 7} {n : ℕ} {g : GSem nD τ sig} {u : Unit} {O : CellTallies nD τ sig Unit}
    (h : 0 < (O + tallyAt (kcell (c, k)) () n) g u) : 0 < O g u ∨ g = kcell (c, k) := by
  rw [Pi.add_apply, Finsupp.add_apply, tallyAt_apply] at h
  by_cases hg : g = kcell (c, k)
  · exact Or.inr hg
  · rw [if_neg (fun h' => hg h'.1), Nat.add_zero] at h; exact Or.inl h

theorem OP_pos {c : Dev nD} {g : GSem nD τ sig} {u : Unit} (h : 0 < OP c g u) : g = kcell (peer c, 6) := by
  unfold OP at h
  rcases tally_pos (O := 0) (by rw [zero_add]; exact h) with h | h
  · exact absurd h (by simp)
  · exact h

/-- What a device owes lies on its peer's cells, above the level `n`. -/
def Above (n : ℕ) (O : CellTallies nD τ sig Unit) : Prop := ∀ g u, 0 < O g u → g.1.2 = .tc ∧ n < lev g.2

theorem above_zero (n : ℕ) : Above n 0 := fun g u h => absurd h (by simp)
theorem above_OP (c : Dev nD) : Above 2 (OP c) := fun g u h => by rw [OP_pos h]; exact ⟨rfl, (by decide : 2 < lev (csem 6))⟩
theorem above_OX (c : Dev nD) : Above 1 (OX c) := fun g u h => by
  rcases tally_pos h with h | rfl
  · exact ⟨(above_OP c g u h).1, lt_trans (by decide) (above_OP c g u h).2⟩
  · exact ⟨rfl, (by decide : 1 < lev (csem 4))⟩
theorem above_OR (c : Dev nD) : Above 1 (OR c) := fun g u h => by
  rcases tally_pos h with h | rfl
  · exact above_OX c g u h
  · exact ⟨rfl, (by decide : 1 < lev (csem 2))⟩
theorem above_O₀ (c : Dev nD) : Above 0 (O₀ c) := fun g u h => by
  rcases tally_pos h with h | rfl
  · exact ⟨(above_OR c g u h).1, lt_trans (by decide) (above_OR c g u h).2⟩
  · exact ⟨rfl, (by decide : 0 < lev (csem 0))⟩

/-- A device may wait on a semaphore below everything it owes. -/
theorem mayWait (c : Dev nD) (sm : SemLoc sig) (O : CellTallies nD τ sig Unit) {n : ℕ} (hn : lev sm ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-! ## What a device starts from -/

/-- Whose cell of index `k` device `c` pays. -/
def tgt (c : Dev nD) : Fin 7 → Dev nD := ![peer c, c, peer c, c, peer c, c, peer c]

/-- Every cell's invariant and that it is at round 0. -/
def records (K : Dev nD × Fin 7 → ℕ) : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (Rd m) (K ck) (kcell ck) :=
  sep_elim_left.trans (bigSep_elim (Φ := fun ck : Dev nD × Fin 7 => (cellInv ER (Rd m) (K ck) (kcell ck) : sProp 𝕄)) (Finset.mem_univ ck))
theorem reached_at (K : Dev nD × Fin 7 → ℕ) (ck : Dev nD × Fin 7) : records m K ⊢ reached ER (kcell ck) 0 :=
  sep_elim_right.trans (bigSep_elim (Φ := fun ck : Dev nD × Fin 7 => (reached ER (kcell ck) 0 : sProp 𝕄)) (Finset.mem_univ ck))

/-- The tokens of the duties device `c` pays. -/
def payToks (c : Dev nD) : sProp 𝕄 := bigSep Finset.univ fun k : Fin 7 => dutyTok ER (kcell (tgt c k, k)) 0 ()
/-- Its positions at its own cells. -/
def spots (c : Dev nD) : sProp 𝕄 := bigSep Finset.univ fun k : Fin 7 => atPos ER (kcell (c, k)) 0 ∅ 0

def ghost (K : Dev nD × Fin 7 → ℕ) (c : Dev nD) : sProp 𝕄 := iprop(records m K ∗ spots c ∗ payToks c)

/-- The four semaphores of the weights' copies at zero. -/
def wSems (c : Dev nD) : sProp 𝕄 :=
  iprop(semVal ((c : Thread nD τ), .dma wA) 0 ∗ semVal ((c : Thread nD τ), .dma wB) 0 ∗ semVal ((c : Thread nD τ), .dma wC) 0 ∗ semVal ((c : Thread nD τ), .dma wD) 0)

/-- The credits of what its peer owes device `c`. -/
def creds (c : Dev nD) : sProp 𝕄 :=
  iprop(cred (tallyAt (kcell (c, 0)) () 1) ∗ cred (tallyAt (kcell (c, 2)) () NR) ∗ cred (tallyAt (kcell (c, 4)) () NX) ∗ cred (tallyAt (kcell (c, 6)) () NP))

/-- The experts' weights of device `c`. -/
def weights (c : Dev nD) : sProp 𝕄 := iprop(held c e1M fullShare (w1B m c) ∗ held c e2M fullShare (w2B m c))

/-- The scratch buffers, at any contents. -/
def scratch (c : Dev nD) : sProp 𝕄 :=
  iprop((∃ X, held (F := F) c w1M fullShare X) ∗ (∃ X, held (F := F) c w2M fullShare X) ∗ (∃ X, held (F := F) c xaM fullShare X)
    ∗ (∃ X, held (F := F) c rfM fullShare X) ∗ (∃ X, held (F := F) c ppM fullShare X) ∗ (∃ X, held (F := F) c rvM fullShare X))

def start (c : Dev nD) : sProp 𝕄 := iprop((∃ K, ghost m K c) ∗ wSems (F := F) c ∗ creds (F := F) c ∗ levAts L lv ∗ weights m c)

def Φ₀ (c : Dev nD) : sProp 𝕄 := iprop(start m c ∗ scratch (F := F) c)
/-- After the body: the scratch buffers, the weights as they were, and every semaphore at zero. -/
def Φ₁ (c : Dev nD) : sProp 𝕄 :=
  iprop(scratch (F := F) c ∗ weights m c ∗ (bigSep Finset.univ fun k : Fin 7 => semVal (kcell (c, k)) 0) ∗ wSems (F := F) c)

/-- Seven assertions conjoined. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The pipeline's data -/

abbrev 𝒱₀ : Variants := Variants.none

open Idealize.ShloMosaic.Pipeline (Dat Cfg Window BodyObligation cellOf) in
def dats (_ : Fin 1) (c : Dev nD) : Dat τ (Elt F) Unit ℕ UU ℕ cfg0 c where
  A w := m ((cfg0.win w).arr.view.loc (c : Thread nD τ))
  after w _ := match w with
    | ⟨0, _⟩ => xB m c
    | ⟨1, _⟩ => rB m c
    | ⟨2, _⟩ => outB m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The waits on the protocol's cells -/

/-- A wait on a cell of the protocol, which closes it: the cell's payload, and its semaphore at zero. -/
theorem wait_cell (defs : Defs nD τ sig (Elt F) Λ₀) (K : Dev nD × Fin 7 → ℕ) (c : Dev nD) (k : Fin 7) {w : TpuEff nD τ sig (Elt F) Λ₀ .tc PUnit} {n : ℕ}
    (hw : ∀ R : PUnit → sProp 𝕄, wpE defs 𝒱₀ (c : Thread nD τ) none Set.univ w R = waitSpec (c : Thread nD τ) Set.univ (csem k) n R) (hn : n = amt k)
    {α : Type} {k' : PUnit → Prog (TpuEff nD τ sig (Elt F) Λ₀ .tc) α} {Q : α → sProp 𝕄} {O : CellTallies nD τ sig Unit} {W : Waits sig Unit} :
    iprop(cellInv ER (Rd m) (K (c, k)) (kcell (c, k)) ∗ cred (tallyAt (kcell (c, k)) () (amt k)) ∗ owes (c : Thread nD τ) O W
        ∗ MayWait (c : Thread nD τ) (csem k) () O ∗ atPos ER (kcell (c, k)) 0 ∅ 0)
      ⊢ iprop((iprop(owes (c : Thread nD τ) O (insert (csem k, ()) W) ∗ semVal (kcell (c, k)) 0 ∗ pay m c k)
          -∗ wp frame (wpE defs 𝒱₀ (c : Thread nD τ) none) Set.univ (k' ⟨⟩) Q)
        -∗ wp frame (wpE defs 𝒱₀ (c : Thread nD τ) none) Set.univ (.op w k') Q) := by
  subst hn
  iintro ⟨#HI, Hc, HO, Hm, Ha⟩ Hk
  iapply (Rounds.wp_wait_rest_token 𝒱₀ ER (Rd m) (c : Thread nD τ) none (κ := K (c, k)) hw (Set.mem_univ _) () (O := O) (W := W) (R := 0) (m := 0) (T := ∅)
    (by rw [Nat.zero_add, expect_cell])) $$ [Hc HO Hm Ha]
  · isplitr; · iexact HI
    isplitl [Hc]; · iexact Hc
    isplitl [HO]; · iexact HO
    isplitl [Hm] <;> iassumption
  iintro ⟨HO, Ha, -, Hp⟩
  ihave Hp := (Entails.of_eq (rest_cell m c k)) $$ Hp
  imod (Rounds.cell_close ER (Rd m) (Set.mem_univ (K (c, k))) (fun h => h) (R := 0 + 1) (duties_later m (kcell (c, k)))) $$ [Ha] with Hz
  · isplitr; · iexact HI
    iexact Ha
  iapply Hk
  isplitl [HO]; · iexact HO
  isplitl [Hz] <;> iassumption

end Cert.MoeProof
end
-- ==== Proof.Parts.lean ====
/- The body's parts, each run once at a symbolic device. -/
module

public import proofs.«01_k».proof.Proof.Protocol

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A part of the body at the kernel's buffers and semaphores. -/
abbrev onBufs {β : Type*} (f : (arg0 : Memref sig .tc .vmem S512x1024 .f32) → arg0.IsWhole → (arg1 : Memref sig .tc .vmem S1024x4 .f32) → arg1.IsWhole →
    (arg2 : Memref sig .tc .hbm S4x1024x2048 .f32) → arg2.IsWhole → (arg3 : Memref sig .tc .hbm S4x2048x1024 .f32) → arg3.IsWhole →
    (arg4 : Memref sig .tc .vmem S512x1024 .f32) → arg4.IsWhole → (arg5 : Memref sig .tc .vmem S2x1024x2048 .f32) → arg5.IsWhole →
    (arg6 : Memref sig .tc .vmem S2x2048x1024 .f32) → arg6.IsWhole → (arg7 : Memref sig .tc .vmem S512x1024 .f32) → arg7.IsWhole →
    (arg8 : Memref sig .tc .vmem S2x1024x4 .f32) → arg8.IsWhole → (arg9 : Memref sig .tc .vmem S512x1024 .f32) → arg9.IsWhole →
    (arg10 : Memref sig .tc .vmem S512x1024 .f32) → arg10.IsWhole → (arg11 : DmaSems sig S2) → (arg12 : DmaSems sig S2) → (arg13 : DmaSems sig S2) →
    (arg14 : DmaSems sig S4) → β) : β :=
  f xM (Memref.isWhole_whole _) rtM (Memref.isWhole_whole _) e1M (Memref.isWhole_whole _) e2M (Memref.isWhole_whole _) oM (Memref.isWhole_whole _)
    w1M (Memref.isWhole_whole _) w2M (Memref.isWhole_whole _) xaM (Memref.isWhole_whole _) rfM (Memref.isWhole_whole _) ppM (Memref.isWhole_whole _)
    rvM (Memref.isWhole_whole _) cc0_scratch6 cc0_scratch7 cc0_scratch8 cc0_scratch9

/-- What a device owes, whatever it has waited for. -/
def ow (c : Dev nD) (O : CellTallies nD τ sig Unit) : sProp 𝕄 := iprop(∃ W, owes (c : Thread nD τ) O W)

variable (m : (ℓ : Loc nD τ sig) → Buf (Elt F) ℓ)

/-- The program's continuation after a part. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The part `p`, from `P`, returns `v` and leaves `R`. -/
def Runs (c : Dev nD) {α : Type} (p : Prog (TpuEff nD τ sig (Elt F) Λ₀ .tc) α) (v : α) (P R : sProp 𝕄) : Prop :=
  ∀ Q : α → sProp 𝕄, P ⊢ iprop((R -∗ Q v) -∗ run c p Q)

theorem held_rf_congr (c : Dev nD) {o o' : Fin 3 → ℕ} (h : o = o') (i : ∀ a, o a + S1x1024x4.size a ≤ S2x1024x4.size a)
    (i' : ∀ a, o' a + S1x1024x4.size a ≤ S2x1024x4.size a) (q : PosShare TreeShare) (X : S1024x4.Idx → Elt F .f32) :
    (held c (rfS o i) q X : sProp 𝕄) = held c (rfS o' i') q X := by
  subst h; rfl

/-- `wait_cell` with the wait's record forgotten and the cell found among the records. -/
theorem wait_own (K : Dev nD × Fin 7 → ℕ) (c : Dev nD) (k : Fin 7) {w : TpuEff nD τ sig (Elt F) Λ₀ .tc PUnit} {n : ℕ}
    (hw : ∀ R : PUnit → sProp 𝕄, wpE (defs₀ (F := F)) 𝒱₀ (c : Thread nD τ) none Set.univ w R = waitSpec (c : Thread nD τ) Set.univ (csem k) n R)
    (hn : n = amt k) {v : ℕ} (hv : lev (csem k) ≤ v) {O : CellTallies nD τ sig Unit} (hO : Above v O)
    {α : Type} {k' : PUnit → Prog (TpuEff nD τ sig (Elt F) Λ₀ .tc) α} {Q : α → sProp 𝕄} :
    iprop(records m K ∗ levAts L lv ∗ cred (tallyAt (kcell (c, k)) () (amt k)) ∗ atPos ER (kcell (c, k)) 0 ∅ 0 ∗ ow (F := F) c O)
      ⊢ iprop((iprop(ow (F := F) c O ∗ semVal (kcell (c, k)) 0 ∗ pay m c k) -∗ run c (k' ⟨⟩) Q) -∗ run c (.op w k') Q) := by
  unfold ow
  iintro ⟨#HR, #HL, Hc, Ha, ⟨%W, HO⟩⟩ Hk
  iapply (wait_cell m (defs₀ (F := F)) K c k hw hn (O := O) (W := W)) $$ [Hc Ha HO]
  · isplitr; · iapply (inv_at m K (c, k)); iexact HR
    isplitl [Hc]; · iexact Hc
    isplitl [HO]; · iexact HO
    isplitr; · iapply (mayWait c (csem k) O hv hO); iexact HL
    iexact Ha
  iintro ⟨HO, Hz, Hp⟩
  iapply Hk
  isplitl [HO]; · iexists _; iexact HO
  isplitl [Hz] <;> iassumption

/-- The wait for a slice's copy, the wait's record forgotten. -/
theorem fetch_own (c : Dev nD) {sp sp' : Space} {s s' : Shape} {e : EltTy} {M : Memref sig .tc sp s e} {r : Rect s} {hr : ∀ a, r.stride a = 1}
    {hq : r.shape.Squeezes s'} {hn : r.shape.ShapeCasts s'} {dst : Memref sig .tc sp' s' e} {sm : DmaSem sig} {sp₁ : Space} {s₁ : Shape} {e₁ : EltTy}
    {src : Memref sig .tc sp₁ s₁ e₁} {hsrc : src.view.WordExact} {hdst : dst.view.WordExact} {q : PosShare TreeShare} {X : s.Idx → Elt F e}
    {O : CellTallies nD τ sig Unit} (hO : Above 0 O) (hv : lev (.dma sm) ≤ 0) {α : Type}
    {k : PUnit → Prog (TpuEff nD τ sig (Elt F) Λ₀ .tc) α} {Q : α → sProp 𝕄} :
    iprop(levAts L lv ∗ fetching c M r hr hq hn dst sm q X ∗ ow (F := F) c O)
      ⊢ iprop((iprop(ow (F := F) c O ∗ held c M q X ∗ held c dst fullShare (part s' r hn X) ∗ semVal ((c : Thread nD τ), .dma sm) 0) -∗ run c (k ⟨⟩) Q)
        -∗ run c (.op (.waitDma2 sm src dst hsrc hdst) k) Q) := by
  unfold ow
  iintro ⟨#HL, HF, ⟨%W, HO⟩⟩ Hk
  iapply (fetch_wait c (defs₀ (F := F)) 𝒱₀ (O := O) (W := W)) $$ [HF HO]
  · isplitl [HF]; · iexact HF
    isplitl [HO]; · iexact HO
    iapply (mayWait c (.dma sm) O hv hO); iexact HL
  iintro ⟨HM, Hd, Hv, HO⟩
  iapply Hk
  isplitl [HO]; · iexists _; iexact HO
  isplitl [HM]; · iexact HM
  isplitl [Hd] <;> iassumption

/-- A copy to the peer over `held`: it pays the device's own cell `k₁` with the source and the peer's cell `k₂` with the
    destination at the source's contents. -/
theorem send_own (K : Dev nD × Fin 7 → ℕ) (c : Dev nD) (k₁ k₂ : Fin 7) {sp sp' : Space} {s : Shape} {e : EltTy}
    {src : Memref sig .tc sp s e} {n : Dev nD} (hn : n = peer c) {dst : Memref sig .tc sp' s e}
    {hsc : dst.view.ref.isScScratch = false} {hsrc : src.view.WordExact} {hdst : dst.view.WordExact} {sS sV : SemLoc sig}
    {hsem : DmaTarget.Typed (nD := nD) (τ := τ) (p := .tc) sp sV (.remote (Dev.tc n) dst sS hsc)} (hS : sS = csem k₁) (hV : sV = csem k₂)
    (N : ℕ) (hN : dst.view.amount sV = N) (h₁ : amt k₁ = N) (h₂ : amt k₂ = N)
    {O₁ O : CellTallies nD τ sig Unit} (hO : O₁ = O + tallyAt (kcell (peer c, k₂)) () N)
    {q : PosShare TreeShare} {X Y : s.Idx → Elt F e} (hp₁ : held c src q X ⊢ pay m c k₁) (hp₂ : held (peer c) dst fullShare X ⊢ pay m (peer c) k₂)
    {α : Type} {k : PUnit → Prog (TpuEff nD τ sig (Elt F) Λ₀ .tc) α} {Q : α → sProp 𝕄} :
    iprop(records m K ∗ held c src q X ∗ held (peer c) dst fullShare Y ∗ ow (F := F) c O₁
        ∗ dutyTok ER (kcell (c, k₁)) 0 () ∗ dutyTok ER (kcell (peer c, k₂)) 0 ())
      ⊢ iprop((iprop(cred (tallyAt (kcell (c, k₁)) () N) ∗ ow (F := F) c O) -∗ run c (k ⟨⟩) Q)
        -∗ run c (.op (.enqueueDma src (.remote (Dev.tc n) dst sS hsc) sV hsrc hdst hsem) k) Q) := by
  subst hn hS hV
  unfold ow held
  iintro ⟨#HR, Hs, Hd, ⟨%W, HO⟩, Ht₁, Ht₂⟩ Hk
  iapply (Rounds.wp_send_pointsTo 𝒱₀ ER (Rd m) (c : Thread nD τ) none (κ₁ := K (c, k₁)) (κ₂ := K (peer c, k₂)) (r₁ := 0) (r₂ := 0) (d₁ := ()) (d₂ := ())
      (c' := (peer c : Thread nD τ)) (src := src) (dst := dst) (fs := src.view.rep X) (fd := dst.view.rep Y)
      (by rw [show ((c : Thread nD τ), csem k₁) = kcell (c, k₁) from rfl, duties_cell]; exact Finset.mem_singleton_self _)
      (by rw [show ((peer c : Thread nD τ), csem k₂) = kcell (peer c, k₂) from rfl, duties_cell]; exact Finset.mem_singleton_self _)
      () () N hN ((amount_cell m c k₁ ()).trans h₁) ((amount_cell m (peer c) k₂ ()).trans h₂) O hO (W := W)
      (hp₁.trans (Entails.of_eq (payload_cell m c k₁ ()).symm))
      ((Entails.of_eq (by rw [held_of (F := F) (peer c) dst, View.read_write_univ, View.read_rep])).trans
        (hp₂.trans (Entails.of_eq (payload_cell m (peer c) k₂ ()).symm))))
    $$ [Hs Hd HO Ht₁ Ht₂]
  · isplitr; · iapply (inv_at m K (c, k₁)); iexact HR
    isplitr; · iapply (inv_at m K (peer c, k₂)); iexact HR
    isplitl [Hs]; · iexact Hs
    isplitl [Hd]; · iexact Hd
    isplitl [HO]; · iexact HO
    isplitl [Ht₁]; · iexact Ht₁
    isplitr; · iapply (reached_at m K (c, k₁)); iexact HR
    isplitl [Ht₂]; · iexact Ht₂
    iapply (reached_at m K (peer c, k₂)); iexact HR
  iintro ⟨Hc, HO⟩
  iapply Hk
  isplitl [Hc]; · iexact Hc
  iexists W; iexact HO

/-! ## The router's slots and the weights' -/

/-- The weights' slots. -/
abbrev w1S (off : Fin 3 → ℕ) (inb : ∀ a, off a + S1x1024x2048.size a ≤ S2x1024x2048.size a) : Memref sig .tc .vmem S1024x2048 .f32 :=
  (w1M.slice (Rect.unit (s := S2x1024x2048) off S1x1024x2048.size inb) (fun _ => rfl)).squeeze S1024x2048 squeezes_S1x1024x2048_S1024x2048
abbrev w2S (off : Fin 3 → ℕ) (inb : ∀ a, off a + S1x2048x1024.size a ≤ S2x2048x1024.size a) : Memref sig .tc .vmem S2048x1024 .f32 :=
  (w2M.slice (Rect.unit (s := S2x2048x1024) off S1x2048x1024.size inb) (fun _ => rfl)).squeeze S2048x1024 squeezes_S1x2048x1024_S2048x1024
abbrev w1A := w1S ![0, 0, 0] inb_S2x1024x2048_S1x1024x2048_0_0_0
abbrev w1C := w1S ![1, 0, 0] inb_S2x1024x2048_S1x1024x2048_1_0_0
abbrev w2A := w2S ![0, 0, 0] inb_S2x2048x1024_S1x2048x1024_0_0_0
abbrev w2C := w2S ![1, 0, 0] inb_S2x2048x1024_S1x2048x1024_1_0_0

theorem casts1 : S1x1024x2048.ShapeCasts S1024x2048 := shapeCasts_S1x1024x2048_S1024x2048
theorem casts2 : S1x2048x1024.ShapeCasts S2048x1024 := shapeCasts_S1x2048x1024_S2048x1024

/-- An expert's first or second layer on its way to a slot. -/
def go1 (c : Dev nD) (oe : Fin 3 → ℕ) (ie : ∀ a, oe a + S1x1024x2048.size a ≤ S4x1024x2048.size a) (dst : Memref sig .tc .vmem S1024x2048 .f32)
    (sm : DmaSem sig) (q : PosShare TreeShare) : sProp 𝕄 :=
  fetching c e1M (r1 oe ie) (fun _ => rfl) squeezes_S1x1024x2048_S1024x2048 casts1 dst sm q (w1B m c)
def go2 (c : Dev nD) (oe : Fin 3 → ℕ) (ie : ∀ a, oe a + S1x2048x1024.size a ≤ S4x2048x1024.size a) (dst : Memref sig .tc .vmem S2048x1024 .f32)
    (sm : DmaSem sig) (q : PosShare TreeShare) : sProp 𝕄 :=
  fetching c e2M (r2 oe ie) (fun _ => rfl) squeezes_S1x2048x1024_S2048x1024 casts2 dst sm q (w2B m c)

/-- A slot that an expert's layer fills: a load of it reads `p`. -/
def in1 (c : Dev nD) (dst : Memref sig .tc .vmem S1024x2048 .f32) (p : Vec F S1x1024x2048 .f32) : sProp 𝕄 :=
  held c dst fullShare (shapeCast S1024x2048 p casts1)
def in2 (c : Dev nD) (dst : Memref sig .tc .vmem S2048x1024 .f32) (p : Vec F S1x2048x1024 .f32) : sProp 𝕄 :=
  held c dst fullShare (shapeCast S2048x1024 p casts2)

section Slots
variable (c : Dev nD)

theorem load_rf {α : Type} {Q : α → sProp 𝕄} {o : Fin 3 → ℕ} {i : ∀ a, o a + S1x1024x4.size a ≤ S2x1024x4.size a}
    {hl : rfM.view.LoadsAt (Rect.unit (s := S2x1024x4) o S1x1024x4.size i).toLoadRect} {X : S1024x4.Idx → Elt F .f32}
    {k : (S1x1024x4.Idx → Elt F .f32) → Prog (TpuEff nD τ sig (Elt F) Λ₀ .tc) α} :
    held c (rfS o i) fullShare X
      ⊢ iprop((held c (rfS o i) fullShare X -∗ run c (k (unsq (s := S1x1024x4) (s' := S1024x4) shapeCasts_S1x1024x4_S1024x4 X)) Q)
        -∗ run c (.op (.load rfM (Rect.unit (s := S2x1024x4) o S1x1024x4.size i).toLoadRect hl) k) Q) :=
  load_slot c (defs₀ (F := F)) 𝒱₀ (M := rfM) (r := Rect.unit (s := S2x1024x4) o S1x1024x4.size i) (hr := fun _ => rfl)
    (hq := squeezes_S1x1024x4_S1024x4) shapeCasts_S1x1024x4_S1024x4

theorem store_rf {α : Type} {Q : α → sProp 𝕄} {o : Fin 3 → ℕ} {i : ∀ a, o a + S1x1024x4.size a ≤ S2x1024x4.size a} {w : S1x1024x4.Idx → Elt F .f32}
    {hx : (rfM.access (Rect.unit (s := S2x1024x4) o S1x1024x4.size i)).Stores Finset.univ} {hm} {X : S1024x4.Idx → Elt F .f32}
    {k : PUnit → Prog (TpuEff nD τ sig (Elt F) Λ₀ .tc) α} :
    held c (rfS o i) fullShare X
      ⊢ iprop((held c (rfS o i) fullShare (shapeCast S1024x4 w shapeCasts_S1x1024x4_S1024x4) -∗ run c (k ⟨⟩) Q)
        -∗ run c (.op (.store rfM (Rect.unit (s := S2x1024x4) o S1x1024x4.size i) w Finset.univ hx hm) k) Q) :=
  store_slot c (defs₀ (F := F)) 𝒱₀ (M := rfM) (r := Rect.unit (s := S2x1024x4) o S1x1024x4.size i) (hr := fun _ => rfl)
    (hq := squeezes_S1x1024x4_S1024x4) shapeCasts_S1x1024x4_S1024x4

theorem load1 {α : Type} {Q : α → sProp 𝕄} {o : Fin 3 → ℕ} {i : ∀ a, o a + S1x1024x2048.size a ≤ S2x1024x2048.size a}
    {hl : w1M.view.LoadsAt (Rect.unit (s := S2x1024x2048) o S1x1024x2048.size i).toLoadRect} {p : Vec F S1x1024x2048 .f32}
    {k : (S1x1024x2048.Idx → Elt F .f32) → Prog (TpuEff nD τ sig (Elt F) Λ₀ .tc) α} :
    in1 c (w1S o i) p ⊢ iprop((in1 c (w1S o i) p -∗ run c (k p) Q)
        -∗ run c (.op (.load w1M (Rect.unit (s := S2x1024x2048) o S1x1024x2048.size i).toLoadRect hl) k) Q) := by
  have h := load_slot c (defs₀ (F := F)) 𝒱₀ (M := w1M) (r := Rect.unit (s := S2x1024x2048) o S1x1024x2048.size i) (hr := fun _ => rfl)
    (hq := squeezes_S1x1024x2048_S1024x2048) (hl := hl) (q := fullShare) (X := shapeCast S1024x2048 p casts1) (k := k) (Q := Q) casts1
  rw [show unsq (s := S1x1024x2048) (s' := S1024x2048) casts1 (shapeCast S1024x2048 p casts1) = p from shapeCast_shapeCast _ _ _] at h
  exact h

theorem load2 {α : Type} {Q : α → sProp 𝕄} {o : Fin 3 → ℕ} {i : ∀ a, o a + S1x2048x1024.size a ≤ S2x2048x1024.size a}
    {hl : w2M.view.LoadsAt (Rect.unit (s := S2x2048x1024) o S1x2048x1024.size i).toLoadRect} {p : Vec F S1x2048x1024 .f32}
    {k : (S1x2048x1024.Idx → Elt F .f32) → Prog (TpuEff nD τ sig (Elt F) Λ₀ .tc) α} :
    in2 c (w2S o i) p ⊢ iprop((in2 c (w2S o i) p -∗ run c (k p) Q)
        -∗ run c (.op (.load w2M (Rect.unit (s := S2x2048x1024) o S1x2048x1024.size i).toLoadRect hl) k) Q) := by
  have h := load_slot c (defs₀ (F := F)) 𝒱₀ (M := w2M) (r := Rect.unit (s := S2x2048x1024) o S1x2048x1024.size i) (hr := fun _ => rfl)
    (hq := squeezes_S1x2048x1024_S2048x1024) (hl := hl) (q := fullShare) (X := shapeCast S2048x1024 p casts2) (k := k) (Q := Q) casts2
  rw [show unsq (s := S1x2048x1024) (s' := S2048x1024) casts2 (shapeCast S2048x1024 p casts2) = p from shapeCast_shapeCast _ _ _] at h
  exact h

variable {oe : Fin 3 → ℕ} {sm : DmaSem sig} {q : PosShare TreeShare}

theorem start1 {α : Type} {Q : α → sProp 𝕄} {k : PUnit → Prog (TpuEff nD τ sig (Elt F) Λ₀ .tc) α}
    {ie : ∀ a, oe a + S1x1024x2048.size a ≤ S4x1024x2048.size a} {dst : Memref sig .tc .vmem S1024x2048 .f32}
    {hsrc} {hdst} {hsem : DmaTarget.Typed (nD := nD) (τ := τ) (p := .tc) .hbm (.dma sm) (.here dst)} {p : Vec F S1x1024x2048 .f32} :
    iprop(held c e1M q (w1B m c) ∗ in1 c dst p ∗ semVal ((c : Thread nD τ), .dma sm) 0)
      ⊢ iprop((go1 m c oe ie dst sm q -∗ run c (k ⟨⟩) Q)
        -∗ run c (.op (.enqueueDma ((e1M.slice (r1 oe ie) (fun _ => rfl)).squeeze S1024x2048 squeezes_S1x1024x2048_S1024x2048) (.here dst) (.dma sm) hsrc hdst hsem) k) Q) :=
  fetch_start c (defs₀ (F := F)) 𝒱₀ (M := e1M) (r := r1 oe ie) casts1 (Shape.numel_pos (by decide))

theorem start2 {α : Type} {Q : α → sProp 𝕄} {k : PUnit → Prog (TpuEff nD τ sig (Elt F) Λ₀ .tc) α}
    {ie : ∀ a, oe a + S1x2048x1024.size a ≤ S4x2048x1024.size a} {dst : Memref sig .tc .vmem S2048x1024 .f32}
    {hsrc} {hdst} {hsem : DmaTarget.Typed (nD := nD) (τ := τ) (p := .tc) .hbm (.dma sm) (.here dst)} {p : Vec F S1x2048x1024 .f32} :
    iprop(held c e2M q (w2B m c) ∗ in2 c dst p ∗ semVal ((c : Thread nD τ), .dma sm) 0)
      ⊢ iprop((go2 m c oe ie dst sm q -∗ run c (k ⟨⟩) Q)
        -∗ run c (.op (.enqueueDma ((e2M.slice (r2 oe ie) (fun _ => rfl)).squeeze S2048x1024 squeezes_S1x2048x1024_S2048x1024) (.here dst) (.dma sm) hsrc hdst hsem) k) Q) :=
  fetch_start c (defs₀ (F := F)) 𝒱₀ (M := e2M) (r := r2 oe ie) casts2 (Shape.numel_pos (by decide))

variable {O : CellTallies nD τ sig Unit} {sp₁ : Space} {s₁ : Shape} {e₁ : EltTy} {src : Memref sig .tc sp₁ s₁ e₁} {hsrc : src.view.WordExact}

theorem wait1 {α : Type} {Q : α → sProp 𝕄} {k : PUnit → Prog (TpuEff nD τ sig (Elt F) Λ₀ .tc) α}
    {ie : ∀ a, oe a + S1x1024x2048.size a ≤ S4x1024x2048.size a} {dst : Memref sig .tc .vmem S1024x2048 .f32} {hdst : dst.view.WordExact}
    (hO : Above 0 O) (hv : lev (.dma sm) ≤ 0) :
    iprop(levAts L lv ∗ go1 m c oe ie dst sm q ∗ ow (F := F) c O)
      ⊢ iprop((iprop(ow (F := F) c O ∗ held c e1M q (w1B m c) ∗ in1 c dst (fun y => w1B m c ((r1 oe ie).idx y)) ∗ semVal ((c : Thread nD τ), .dma sm) 0) -∗ run c (k ⟨⟩) Q)
        -∗ run c (.op (.waitDma2 sm src dst hsrc hdst) k) Q) :=
  fetch_own c (hn := casts1) hO hv

theorem wait2 {α : Type} {Q : α → sProp 𝕄} {k : PUnit → Prog (TpuEff nD τ sig (Elt F) Λ₀ .tc) α}
    {ie : ∀ a, oe a + S1x2048x1024.size a ≤ S4x2048x1024.size a} {dst : Memref sig .tc .vmem S2048x1024 .f32} {hdst : dst.view.WordExact}
    (hO : Above 0 O) (hv : lev (.dma sm) ≤ 0) :
    iprop(levAts L lv ∗ go2 m c oe ie dst sm q ∗ ow (F := F) c O)
      ⊢ iprop((iprop(ow (F := F) c O ∗ held c e2M q (w2B m c) ∗ in2 c dst (fun y => w2B m c ((r2 oe ie).idx y)) ∗ semVal ((c : Thread nD τ), .dma sm) 0) -∗ run c (k ⟨⟩) Q)
        -∗ run c (.op (.waitDma2 sm src dst hsrc hdst) k) Q) :=
  fetch_own c (hn := casts2) hO hv

end Slots

theorem hz : (![0, 0] : Fin 2 → Nat) = fun _ => 0 := funext fun a => by fin_cases a <;> rfl

/-- A store of a whole block. -/
theorem store_pp (c : Dev nD) {w : S512x1024.Idx → Elt F .f32}
    {hx : (ppM.access (Rect.unit (s := S512x1024) ![0, 0] S512x1024.size inb_S512x1024_S512x1024_0_0)).Stores Finset.univ} {hm} {X : S512x1024.Idx → Elt F .f32}
    {α : Type} {Q : α → sProp 𝕄} {k : PUnit → Prog (TpuEff nD τ sig (Elt F) Λ₀ .tc) α} :
    held c ppM fullShare X ⊢ iprop((held c ppM fullShare w -∗ run c (k ⟨⟩) Q)
      -∗ run c (.op (.store ppM (Rect.unit (s := S512x1024) ![0, 0] S512x1024.size inb_S512x1024_S512x1024_0_0) w Finset.univ hx hm) k) Q) :=
  store_whole c (defs₀ (F := F)) 𝒱₀ (M := ppM) (w' := w) (fun f => (View.read_whole _ _).trans (Memref.write_access_unit_zero_univ (Elt F) cc0_scratch4 hz _ f w)) (View.set_whole _)
theorem store_o (c : Dev nD) {w : S512x1024.Idx → Elt F .f32}
    {hx : (oM.access (Rect.unit (s := S512x1024) ![0, 0] S512x1024.size inb_S512x1024_S512x1024_0_0)).Stores Finset.univ} {hm} {X : S512x1024.Idx → Elt F .f32}
    {α : Type} {Q : α → sProp 𝕄} {k : PUnit → Prog (TpuEff nD τ sig (Elt F) Λ₀ .tc) α} :
    held c oM fullShare X ⊢ iprop((held c oM fullShare w -∗ run c (k ⟨⟩) Q)
      -∗ run c (.op (.store oM (Rect.unit (s := S512x1024) ![0, 0] S512x1024.size inb_S512x1024_S512x1024_0_0) w Finset.univ hx hm) k) Q) :=
  store_whole c (defs₀ (F := F)) 𝒱₀ (M := oM) (w' := w) (fun f => (View.read_whole _ _).trans (Memref.write_access_unit_zero_univ (Elt F) cc0_stg2_0 hz _ f w)) (View.set_whole _)

/-- A weights semaphore at zero. -/
abbrev z (c : Dev nD) (s : DmaSem sig) : sProp 𝕄 := semVal ((c : Thread nD τ), .dma s) 0

theorem stored_rf (X : S1024x4.Idx → Elt F .f32) : shapeCast S1024x4 (k0_pay2 X) shapeCasts_S1x1024x4_S1024x4 = X := by
  unfold k0_pay2
  dsimp only
  rw [shapeCast_shapeCast, shapeCast_self]

/-! ## The barrier and the router's own slot -/

theorem run1 (K : Dev nD × Fin 7 → ℕ) (c : Dev nD) : Runs c (onBufs (k0_part1 (F := F)))
    ⟨c, Scalar.remsi (Scalar.divsi (Dev.word c) 8#32) 2#32, yW c, Scalar.remsi (Scalar.divsi (Dev.word c) 1#32) 4#32, Scalar.subi 1#32 (yW c),
      k0_pay1 (F := F), slots, Scalar.addi 0#32 (Scalar.muli (Scalar.remsi (Scalar.divsi (Dev.word c) 8#32) 2#32) 8#32)⟩
    iprop(records m K ∗ levAts L lv ∗ ow (F := F) c (O₀ c) ∗ cred (tallyAt (kcell (c, 0)) () 1) ∗ atPos ER (kcell (c, 0)) 0 ∅ 0
        ∗ dutyTok ER (kcell (peer c, 0)) 0 ()
        ∗ (∃ X, held (F := F) c xaM fullShare X) ∗ (∃ X, held (F := F) c (rfD (peer c)) fullShare X) ∗ (∃ X, held (F := F) c rvM fullShare X)
        ∗ held c rtM fullShare (rB m c) ∗ (∃ X, held (F := F) c (rfD c) fullShare X))
    iprop(ow (F := F) c (OR c) ∗ semVal (kcell (c, 0)) 0 ∗ pay m c 0 ∗ held c rtM fullShare (rB m c) ∗ held c (rfD c) fullShare (rB m c)) := by
  intro Q
  unfold yW slots
  simp only [onBufs, k0_part1_eq_skeleton]; unfold k0_part1_skel
  simp only [run, semSignalWord, semWaitWord, Prog.lift, Prog.bind_op, Prog.bind_ret, Prog.pure_eq_ret, wp_deviceId]
  unfold ow
  iintro ⟨#HR, #HL, ⟨%W, HO⟩, Hc, Ha, Ht, Hxa, Hrf, Hrv, Hrt, ⟨%Y, Hs⟩⟩ Hk
  simp only [dev1_eq c]
  iapply (Rounds.wp_signal 𝒱₀ ER (Rd m) (c : Thread nD τ) none (dst := (peer c : Thread nD τ)) (κ := K (peer c, 0))
      (d := ()) (by rw [show ((peer c : Thread nD τ), SemLoc.reg barS) = kcell (peer c, 0) from rfl, duties_cell]; exact Finset.mem_singleton_self _)
      ((amount_cell m (peer c) 0 ()).trans (by decide)) () (OR c) rfl)
    $$ [HO Ht Hxa Hrf Hrv]
  · isplitr; · iapply (inv_at m K (peer c, 0)); iexact HR
    isplitl [HO]; · iexact HO
    isplitl [Ht]; · iexact Ht
    isplitl [Hxa Hrf Hrv]
    · iapply (Entails.of_eq (show _ = (Rd m).payload ((peer c : Thread nD τ), .reg barS) 0 () from (payload_cell m (peer c) 0 ()).symm))
      unfold pay
      dsimp
      rw [peer_peer]
      isplitl [Hxa]; · iexact Hxa
      isplitl [Hrf] <;> iassumption
    · iapply (reached_at m K (peer c, 0)); iexact HR
  iintro HO
  iapply (wait_own m K c 0 (wpE_semWait_eq 𝒱₀ (c : Thread nD τ) none Set.univ) (by decide) (v := 1) (by decide) (above_OR c)) $$ [Hc Ha HO]
  · isplitr; · iexact HR
    isplitr; · iexact HL
    isplitl [Hc]; · iexact Hc
    isplitl [Ha]; · iexact Ha
    unfold ow; iexists W; iexact HO
  iintro ⟨HO, Hz, Hp⟩
  iapply (load_whole c (defs₀ (F := F)) 𝒱₀) $$ Hrt; iintro Hrt
  ihave Hs := (Entails.of_eq (held_rf_congr c (off1_eq c).symm (k0_off2_inb c) (k0_off1_inb c) fullShare Y)) $$ Hs
  iapply (load_rf c) $$ Hs; iintro Hs
  iapply (store_rf c) $$ Hs; iintro Hs
  ihave Hs := (Entails.of_eq (held_rf_congr c (off1_eq c) (k0_off1_inb c) (k0_off2_inb c) fullShare _)) $$ Hs
  rw [stored_rf]
  simp only [run, wp_ret]; imodintro
  iapply Hk
  unfold ow
  isplitl [HO]; · iexact HO
  isplitl [Hz]; · iexact Hz
  isplitl [Hp]; · iexact Hp
  isplitl [Hrt]; · iexact Hrt
  iexact Hs

/-! ## The two first copies to the peer -/

theorem run2 (K : Dev nD × Fin 7 → ℕ) (c : Dev nD) (v2 v8 v9 v31 : BitVec 32) : Runs c (onBufs (k0_part2 (F := F)) c v2 v8 v9 v31) ⟨⟩
    iprop(records m K ∗ levAts L lv ∗ ow (F := F) c (OR c) ∗ held c rtM fullShare (rB m c) ∗ held c xM fullShare (xB m c)
      ∗ (∃ X, held (F := F) (peer c) (rfD c) fullShare X) ∗ (∃ X, held (F := F) (peer c) xaM fullShare X)
      ∗ dutyTok ER (kcell (c, 1)) 0 () ∗ dutyTok ER (kcell (peer c, 2)) 0 () ∗ dutyTok ER (kcell (c, 3)) 0 () ∗ dutyTok ER (kcell (peer c, 4)) 0 ()
      ∗ atPos ER (kcell (c, 1)) 0 ∅ 0)
    iprop(ow (F := F) c (OP c) ∗ held c xM fullShare.right (xB m c) ∗ cred (tallyAt (kcell (c, 3)) () NX) ∗ semVal (kcell (c, 1)) 0
      ∗ held c rtM fullShare (rB m c)) := by
  intro Q
  simp only [onBufs, k0_part2_eq_skeleton]; unfold k0_part2_skel
  simp only [Prog.lift, Prog.bind_op, Prog.bind_ret, Prog.pure_eq_ret]
  iintro ⟨#HR, #HL, HO, Hrt, Hx, ⟨%Y, Hrf⟩, ⟨%Z, Hxa⟩, Ht1, Ht2, Ht3, Ht4, Ha⟩ Hk
  iapply (send_own m K c 1 2 (dev2_eq c) (dst := rfD c) rfl rfl NR rfl rfl rfl (O := OX c) rfl (X := rB m c) (Y := Y) (by exact BIBase.Entails.rfl)
    (by show _ ⊢ pay m (peer c) 2; unfold pay; dsimp; rw [peer_peer])) $$ [HO Hrt Hrf Ht1 Ht2]
  · isplitr; · iexact HR
    isplitl [Hrt]; · iexact Hrt
    isplitl [Hrf]; · iexact Hrf
    isplitl [HO]; · iexact HO
    isplitl [Ht1] <;> iassumption
  iintro ⟨Hc1, HO⟩
  ihave Hx := (held_halves c xM (xB m c)).1 $$ Hx
  icases Hx with ⟨Hxl, Hxr⟩
  iapply (send_own m K c 3 4 (dev3_eq c) (dst := xaM) rfl rfl NX rfl rfl rfl (O := OP c) rfl (X := xB m c) (Y := Z) (by exact BIBase.Entails.rfl)
    (by show _ ⊢ pay m (peer c) 4; unfold pay; dsimp; rw [peer_peer])) $$ [HO Hxl Hxa Ht3 Ht4]
  · isplitr; · iexact HR
    isplitl [Hxl]; · iexact Hxl
    isplitl [Hxa]; · iexact Hxa
    isplitl [HO]; · iexact HO
    isplitl [Ht3] <;> iassumption
  iintro ⟨Hc3, HO⟩
  iapply (wait_own m K c 1 (wpE_waitDma2_eq 𝒱₀ (c : Thread nD τ) none Set.univ) rfl (v := 2) (by decide) (above_OP c)) $$ [Hc1 Ha HO]
  · isplitr; · iexact HR
    isplitr; · iexact HL
    isplitl [Hc1]; · iexact Hc1
    isplitl [Ha] <;> iassumption
  iintro ⟨HO, Hz, Hrt⟩
  ihave Hrt := (show pay m c 1 ⊢ held c rtM fullShare (rB m c) from BIBase.Entails.rfl) $$ Hrt
  simp only [run, wp_ret]; imodintro
  iapply Hk
  isplitl [HO]; · iexact HO
  isplitl [Hxr]; · iexact Hxr
  isplitl [Hc3]; · iexact Hc3
  isplitl [Hz]; · iexact Hz
  iexact Hrt

/-! ## The whole router, the first weights, the tokens -/

/-- The two router slots a device ends with: its own and its peer's. -/
theorem slots_full (c : Dev nD) :
    iprop(held c (rfD c) fullShare (rB m c) ∗ held c (rfD (peer c)) fullShare (rB m (peer c)))
      ⊢ iprop(held c (rfS ![0, 0, 0] inb_S2x1024x4_S1x1024x4_0_0_0) fullShare (rB m (member c 0))
        ∗ held c (rfS ![1, 0, 0] inb_S2x1024x4_S1x1024x4_1_0_0) fullShare (rB m (member c 1))) := by
  rcases place c with ⟨h0, h1, h2, h3⟩ | ⟨h0, h1, h2, h3⟩
  · rw [h2, h3, held_rf_congr c h0 _ inb_S2x1024x4_S1x1024x4_0_0_0, held_rf_congr c h1 _ inb_S2x1024x4_S1x1024x4_1_0_0]
  · rw [h2, h3, held_rf_congr c h0 _ inb_S2x1024x4_S1x1024x4_1_0_0, held_rf_congr c h1 _ inb_S2x1024x4_S1x1024x4_0_0_0]
    exact sep_comm.1

theorem run3 (K : Dev nD × Fin 7 → ℕ) (c : Dev nD) : Runs c (onBufs (k0_part3 (F := F)) c) (rF m c)
    iprop(records m K ∗ levAts L lv ∗ ow (F := F) c (OP c) ∗ cred (tallyAt (kcell (c, 2)) () NR) ∗ atPos ER (kcell (c, 2)) 0 ∅ 0
      ∗ held c (rfD c) fullShare (rB m c) ∗ held c e1M fullShare.left (w1B m c) ∗ held c e1M fullShare.right (w1B m c) ∗ held c e2M fullShare.left (w2B m c)
      ∗ (∃ p, in1 (F := F) c w1A p) ∗ (∃ p, in2 (F := F) c w2A p) ∗ (∃ p, in1 (F := F) c w1C p) ∗ z c wA ∗ z c wB ∗ z c wC)
    iprop(ow (F := F) c (OP c) ∗ semVal (kcell (c, 2)) 0 ∗ held c (rfS ![0, 0, 0] inb_S2x1024x4_S1x1024x4_0_0_0) fullShare (rB m (member c 0))
      ∗ held c (rfS ![1, 0, 0] inb_S2x1024x4_S1x1024x4_1_0_0) fullShare (rB m (member c 1))
      ∗ go1 m c ![0, 0, 0] inb_S4x1024x2048_S1x1024x2048_0_0_0 w1A wA fullShare.left ∗ go2 m c ![0, 0, 0] inb_S4x2048x1024_S1x2048x1024_0_0_0 w2A wB fullShare.left
      ∗ go1 m c ![1, 0, 0] inb_S4x1024x2048_S1x1024x2048_1_0_0 w1C wC fullShare.right) := by
  intro Q
  unfold rF
  simp only [onBufs, k0_part3_eq_skeleton]; unfold k0_part3_skel
  simp only [Prog.lift, Prog.bind_op, Prog.bind_ret, Prog.pure_eq_ret]
  iintro ⟨#HR, #HL, HO, Hc, Ha, Hs, Hl, Hr, Hm, ⟨%pa, HA⟩, ⟨%pb, HB⟩, ⟨%pc, HC⟩, zA, zB, zC⟩ Hk
  iapply (wait_own m K c 2 (wpE_waitDma2_eq 𝒱₀ (c : Thread nD τ) none Set.univ) rfl (v := 2) (by decide) (above_OP c)) $$ [Hc Ha HO]
  · isplitr; · iexact HR
    isplitr; · iexact HL
    isplitl [Hc]; · iexact Hc
    isplitl [Ha] <;> iassumption
  iintro ⟨HO, Hz, Hp⟩
  ihave Hp := (show pay m c 2 ⊢ held c (rfD (peer c)) fullShare (rB m (peer c)) from BIBase.Entails.rfl) $$ Hp
  ihave Hss := (slots_full m c) $$ [Hs Hp]
  · isplitl [Hs]; · iexact Hs
    iexact Hp
  icases Hss with ⟨Hs0, Hs1⟩
  iapply (load_rf c) $$ Hs0; iintro Hs0
  iapply (load_rf c) $$ Hs1; iintro Hs1
  iapply (start1 m c) $$ [Hl HA zA]
  · isplitl [Hl]; · iexact Hl
    isplitl [HA] <;> iassumption
  iintro HA
  iapply (start2 m c) $$ [Hm HB zB]
  · isplitl [Hm]; · iexact Hm
    isplitl [HB] <;> iassumption
  iintro HB
  iapply (start1 m c) $$ [Hr HC zC]
  · isplitl [Hr]; · iexact Hr
    isplitl [HC] <;> iassumption
  iintro HC
  simp only [run, wp_ret]; imodintro
  iapply Hk
  isplitl [HO]; · iexact HO
  isplitl [Hz]; · iexact Hz
  isplitl [Hs0]; · iexact Hs0
  isplitl [Hs1]; · iexact Hs1
  isplitl [HA]; · iexact HA
  isplitl [HB]; · iexact HB
  iexact HC

theorem run4 (K : Dev nD × Fin 7 → ℕ) (c : Dev nD) (r : FVec F S1024x8 .f32) : Runs c (onBufs (k0_part4 (F := F)) r)
    ⟨k0_pay4 (xB m c), k0_pay7 r (xB m c), k0_pay10 r (xB m c), k0_pay12 r (xB m c), k0_pay13 r (xB m c)⟩
    iprop(records m K ∗ levAts L lv ∗ ow (F := F) c (OP c) ∗ cred (tallyAt (kcell (c, 3)) () NX) ∗ atPos ER (kcell (c, 3)) 0 ∅ 0
      ∗ held c xM fullShare.right (xB m c) ∗ held c e2M fullShare.right (w2B m c) ∗ (∃ p, in2 (F := F) c w2C p) ∗ z c wD)
    iprop(ow (F := F) c (OP c) ∗ semVal (kcell (c, 3)) 0 ∗ held c xM fullShare (xB m c)
      ∗ go2 m c ![1, 0, 0] inb_S4x2048x1024_S1x2048x1024_1_0_0 w2C wD fullShare.right) := by
  intro Q
  simp only [onBufs, k0_part4_eq_skeleton]; unfold k0_part4_skel
  simp only [Prog.lift, Prog.bind_op, Prog.bind_ret, Prog.pure_eq_ret]
  iintro ⟨#HR, #HL, HO, Hc, Ha, Hx, Hr, ⟨%pd, HD⟩, zD⟩ Hk
  iapply (start2 m c) $$ [Hr HD zD]
  · isplitl [Hr]; · iexact Hr
    isplitl [HD] <;> iassumption
  iintro HD
  iapply (load_whole c (defs₀ (F := F)) 𝒱₀) $$ Hx; iintro Hx
  iapply (wait_own m K c 3 (wpE_waitDma2_eq 𝒱₀ (c : Thread nD τ) none Set.univ) rfl (v := 2) (by decide) (above_OP c)) $$ [Hc Ha HO]
  · isplitr; · iexact HR
    isplitr; · iexact HL
    isplitl [Hc]; · iexact Hc
    isplitl [Ha] <;> iassumption
  iintro ⟨HO, Hz, Hp⟩
  ihave Hp := (show pay m c 3 ⊢ held c xM fullShare.left (xB m c) from BIBase.Entails.rfl) $$ Hp
  simp only [run, wp_ret]; imodintro
  iapply Hk
  isplitl [HO]; · iexact HO
  isplitl [Hz]; · iexact Hz
  isplitl [Hp Hx]
  · iapply (held_halves c xM (xB m c)).2
    isplitl [Hp]; · iexact Hp
    iexact Hx
  iexact HD

theorem run5 (K : Dev nD × Fin 7 → ℕ) (c : Dev nD) (v2 v8 v9 : BitVec 32) (r : FVec F S1024x8 .f32) : Runs c (onBufs (k0_part5 (F := F)) v2 v8 v9 r)
    ⟨xB m (peer c), k0_pay16 r (xB m (peer c)), k0_pay19 r (xB m (peer c)), k0_pay21 r (xB m (peer c)), k0_pay22 r (xB m (peer c))⟩
    iprop(records m K ∗ levAts L lv ∗ ow (F := F) c (OP c) ∗ cred (tallyAt (kcell (c, 4)) () NX) ∗ atPos ER (kcell (c, 4)) 0 ∅ 0)
    iprop(ow (F := F) c (OP c) ∗ semVal (kcell (c, 4)) 0 ∗ held c xaM fullShare (xB m (peer c))) := by
  intro Q
  simp only [onBufs, k0_part5_eq_skeleton]; unfold k0_part5_skel
  simp only [Prog.lift, Prog.bind_op, Prog.bind_ret, Prog.pure_eq_ret]
  iintro ⟨#HR, #HL, HO, Hc, Ha⟩ Hk
  iapply (wait_own m K c 4 (wpE_waitDma2_eq 𝒱₀ (c : Thread nD τ) none Set.univ) rfl (v := 2) (by decide) (above_OP c)) $$ [Hc Ha HO]
  · isplitr; · iexact HR
    isplitr; · iexact HL
    isplitl [Hc]; · iexact Hc
    isplitl [Ha] <;> iassumption
  iintro ⟨HO, Hz, Hp⟩
  ihave Hp := (show pay m c 4 ⊢ held c xaM fullShare (xB m (peer c)) from BIBase.Entails.rfl) $$ Hp
  iapply (load_whole c (defs₀ (F := F)) 𝒱₀) $$ Hp; iintro Hp
  simp only [run, wp_ret]; imodintro
  iapply Hk
  isplitl [HO]; · iexact HO
  isplitl [Hz] <;> iassumption

end Cert.MoeProof
end
-- ==== Proof.Experts.lean ====
/- The body's parts after the routing: the experts' layers fetched and used, and the contribution's copy. -/
module

public import proofs.«01_k».proof.Proof.Parts

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

theorem Above.mono {n n' : ℕ} {O : CellTallies nD τ sig Unit} (h : Above n O) (hn : n' ≤ n) : Above n' O :=
  fun g u hg => ⟨(h g u hg).1, lt_of_le_of_lt hn (h g u hg).2⟩

/-- Two layers loaded from slots. -/
theorem load12 (c : Dev nD) {o o' : Fin 3 → ℕ} {i : ∀ a, o a + S1x1024x2048.size a ≤ S2x1024x2048.size a} {i' : ∀ a, o' a + S1x2048x1024.size a ≤ S2x2048x1024.size a}
    {hl : w1M.view.LoadsAt (Rect.unit (s := S2x1024x2048) o S1x1024x2048.size i).toLoadRect} {p : Vec F S1x1024x2048 .f32}
    {hl' : w2M.view.LoadsAt (Rect.unit (s := S2x2048x1024) o' S1x2048x1024.size i').toLoadRect} {q : Vec F S1x2048x1024 .f32}
    {α : Type} {Q : α → sProp 𝕄} {k : Vec F S1x1024x2048 .f32 → Vec F S1x2048x1024 .f32 → Prog (TpuEff nD τ sig (Elt F) Λ₀ .tc) α} :
    iprop(in1 c (w1S o i) p ∗ in2 c (w2S o' i') q)
      ⊢ iprop((iprop(in1 c (w1S o i) p ∗ in2 c (w2S o' i') q) -∗ run c (k p q) Q)
        -∗ run c (.op (.load w1M (Rect.unit (s := S2x1024x2048) o S1x1024x2048.size i).toLoadRect hl) fun a =>
          .op (.load w2M (Rect.unit (s := S2x2048x1024) o' S1x2048x1024.size i').toLoadRect hl') fun b => k a b) Q) := by
  iintro ⟨Hp, Hq⟩ Hk
  iapply (load1 c) $$ Hp; iintro Hp
  iapply (load2 c) $$ Hq; iintro Hq
  iapply Hk
  isplitl [Hp] <;> iassumption

/-- Two layers started on their way to slots. -/
theorem start12 (c : Dev nD) {oe oe' : Fin 3 → ℕ} {s₁ s₂ : DmaSem sig} {q : PosShare TreeShare} {ie : ∀ a, oe a + S1x1024x2048.size a ≤ S4x1024x2048.size a}
    {ie' : ∀ a, oe' a + S1x2048x1024.size a ≤ S4x2048x1024.size a} {d₁ : Memref sig .tc .vmem S1024x2048 .f32} {d₂ : Memref sig .tc .vmem S2048x1024 .f32}
    {hsrc} {hdst} {hsem : DmaTarget.Typed (nD := nD) (τ := τ) (p := .tc) .hbm (.dma s₁) (.here d₁)}
    {hsrc'} {hdst'} {hsem' : DmaTarget.Typed (nD := nD) (τ := τ) (p := .tc) .hbm (.dma s₂) (.here d₂)} {p : Vec F S1x1024x2048 .f32} {p' : Vec F S1x2048x1024 .f32}
    {α : Type} {Q : α → sProp 𝕄} {k : Prog (TpuEff nD τ sig (Elt F) Λ₀ .tc) α} :
    iprop(held c e1M q (w1B m c) ∗ held c e2M q (w2B m c) ∗ in1 c d₁ p ∗ in2 c d₂ p' ∗ z c s₁ ∗ z c s₂)
      ⊢ iprop((iprop(go1 m c oe ie d₁ s₁ q ∗ go2 m c oe' ie' d₂ s₂ q) -∗ run c k Q)
        -∗ run c (.op (.enqueueDma ((e1M.slice (r1 oe ie) (fun _ => rfl)).squeeze S1024x2048 squeezes_S1x1024x2048_S1024x2048) (.here d₁) (.dma s₁) hsrc hdst hsem) fun _ =>
          .op (.enqueueDma ((e2M.slice (r2 oe' ie') (fun _ => rfl)).squeeze S2048x1024 squeezes_S1x2048x1024_S2048x1024) (.here d₂) (.dma s₂) hsrc' hdst' hsem') fun _ => k) Q) := by
  iintro ⟨H1, H2, Hp, Hq, z1, z2⟩ Hk
  iapply (start1 m c) $$ [H1 Hp z1]
  · isplitl [H1]; · iexact H1
    isplitl [Hp] <;> iassumption
  iintro HA
  iapply (start2 m c) $$ [H2 Hq z2]
  · isplitl [H2]; · iexact H2
    isplitl [Hq] <;> iassumption
  iintro HB
  iapply Hk
  isplitl [HA] <;> iassumption

/-- The waits for two layers. -/
theorem wait12 (c : Dev nD) {oe oe' : Fin 3 → ℕ} {s₁ s₂ : DmaSem sig} {q : PosShare TreeShare} {ie : ∀ a, oe a + S1x1024x2048.size a ≤ S4x1024x2048.size a}
    {ie' : ∀ a, oe' a + S1x2048x1024.size a ≤ S4x2048x1024.size a} {d₁ : Memref sig .tc .vmem S1024x2048 .f32} {d₂ : Memref sig .tc .vmem S2048x1024 .f32}
    {O : CellTallies nD τ sig Unit} {sp₁ sp₂ : Space} {t₁ t₂ : Shape} {e₁ e₂ : EltTy} {src : Memref sig .tc sp₁ t₁ e₁} {hsrc : src.view.WordExact}
    {src' : Memref sig .tc sp₂ t₂ e₂} {hsrc' : src'.view.WordExact} {hdst : d₁.view.WordExact} {hdst' : d₂.view.WordExact}
    (hO : Above 0 O) (h₁ : lev (.dma s₁) ≤ 0) (h₂ : lev (.dma s₂) ≤ 0) {α : Type} {Q : α → sProp 𝕄} {k : Prog (TpuEff nD τ sig (Elt F) Λ₀ .tc) α} :
    iprop(levAts L lv ∗ go1 m c oe ie d₁ s₁ q ∗ go2 m c oe' ie' d₂ s₂ q ∗ ow (F := F) c O)
      ⊢ iprop((iprop(ow (F := F) c O ∗ held c e1M q (w1B m c) ∗ held c e2M q (w2B m c) ∗ in1 c d₁ (fun y => w1B m c ((r1 oe ie).idx y))
            ∗ in2 c d₂ (fun y => w2B m c ((r2 oe' ie').idx y)) ∗ z c s₁ ∗ z c s₂) -∗ run c k Q)
        -∗ run c (.op (.waitDma2 s₁ src d₁ hsrc hdst) fun _ => .op (.waitDma2 s₂ src' d₂ hsrc' hdst') fun _ => k) Q) := by
  iintro ⟨#HL, H1, H2, HO⟩ Hk
  iapply (wait1 m c hO h₁) $$ [H1 HO]
  · isplitr; · iexact HL
    isplitl [H1] <;> iassumption
  iintro ⟨HO, H1, Hp, z1⟩
  iapply (wait2 m c hO h₂) $$ [H2 HO]
  · isplitr; · iexact HL
    isplitl [H2] <;> iassumption
  iintro ⟨HO, H2, Hq, z2⟩
  iapply Hk
  isplitl [HO]; · iexact HO
  isplitl [H1]; · iexact H1
  isplitl [H2]; · iexact H2
  isplitl [Hp]; · iexact Hp
  isplitl [Hq]; · iexact Hq
  isplitl [z1] <;> iassumption

theorem run6 (c : Dev nD) {O : CellTallies nD τ sig Unit} (hO : Above 0 O) (v5 : BitVec 32) (v15 : FVec F S512x512 .f32) (v148 v160 : IVec S512x1 32) (v166 v169 : FVec F S512x1 .f32) :
    Runs c (onBufs (k0_part6 (F := F)) v5 v15 v148 v160 v166 v169) ⟨k0_pay23 v5 v148 v160 v166 v169, k0_pay24 v5 v148 v160, k0_pay25 v5 v15 v148 v160⟩
    iprop(levAts L lv ∗ go1 m c ![0, 0, 0] inb_S4x1024x2048_S1x1024x2048_0_0_0 w1A wA fullShare.left ∗ go2 m c ![0, 0, 0] inb_S4x2048x1024_S1x2048x1024_0_0_0 w2A wB fullShare.left ∗ ow (F := F) c O)
    iprop(ow (F := F) c O ∗ held c e1M fullShare.left (w1B m c) ∗ held c e2M fullShare.left (w2B m c) ∗ in1 c w1A (p0 (w1B m c)) ∗ in2 c w2A (q0 (w2B m c)) ∗ z (F := F) c wA ∗ z (F := F) c wB) := by
  intro Q
  unfold p0 q0
  simp only [onBufs, k0_part6_eq_skeleton]; unfold k0_part6_skel
  simp only [Prog.lift, Prog.bind_op, Prog.bind_ret, Prog.pure_eq_ret]
  iintro ⟨#HL, H1, H2, HO⟩ Hk
  iapply (wait12 m c hO (by decide) (by decide)) $$ [H1 H2 HO]
  · isplitr; · iexact HL
    isplitl [H1]; · iexact H1
    isplitl [H2] <;> iassumption
  iintro H
  simp only [run, wp_ret]; imodintro
  iapply Hk
  iexact H

theorem run7 (c : Dev nD) {O : CellTallies nD τ sig Unit} (hO : Above 0 O) (v16 : IVec S512x192 32) (v138 : Vec F S512x1024 .f32) (v192 : FVec F S512x1 .f32) (v197 : IVec S512x1 1) (v205 : IVec S512x192 32)
    (p : Vec F S1x1024x2048 .f32) (q : Vec F S1x2048x1024 .f32) :
    Runs c (onBufs (k0_part7 (F := F)) v16 v138 v192 v197 v205) ⟨k0_pay26 v16 v138 v192 v197 v205 p q, 4#32⟩
    iprop(levAts L lv ∗ (in1 c w1A p ∗ in2 c w2A q) ∗ go1 m c ![1, 0, 0] inb_S4x1024x2048_S1x1024x2048_1_0_0 w1C wC fullShare.right ∗ go2 m c ![1, 0, 0] inb_S4x2048x1024_S1x2048x1024_1_0_0 w2C wD fullShare.right ∗ ow (F := F) c O)
    iprop((in1 c w1A p ∗ in2 c w2A q) ∗ ow (F := F) c O ∗ held c e1M fullShare.right (w1B m c) ∗ held c e2M fullShare.right (w2B m c) ∗ in1 c w1C (p1 (w1B m c)) ∗ in2 c w2C (q1 (w2B m c)) ∗ z (F := F) c wC ∗ z (F := F) c wD) := by
  intro Q
  unfold p1 q1
  simp only [onBufs, k0_part7_eq_skeleton]; unfold k0_part7_skel
  simp only [Prog.lift, Prog.bind_op, Prog.bind_ret, Prog.pure_eq_ret]
  iintro ⟨#HL, HP, H1, H2, HO⟩ Hk
  iapply (load12 c) $$ HP; iintro HP
  iapply (wait12 m c hO (by decide) (by decide)) $$ [H1 H2 HO]
  · isplitr; · iexact HL
    isplitl [H1]; · iexact H1
    isplitl [H2] <;> iassumption
  iintro H
  simp only [run, wp_ret]; imodintro
  iapply Hk
  isplitl [HP]; · iexact HP
  iexact H

theorem run8 (c : Dev nD) (v5 : BitVec 32) (v15 : FVec F S512x512 .f32) (v16 : IVec S512x192 32) (v138 : Vec F S512x1024 .f32) (v148 v160 : IVec S512x1 32) (v166 v169 : FVec F S512x1 .f32) (k : BitVec 32)
    (p : Vec F S1x1024x2048 .f32) (q : Vec F S1x2048x1024 .f32) :
    Runs c (onBufs (k0_part8 (F := F)) v5 v15 v16 v138 v148 v160 v166 v169 k) ⟨k0_pay28 v5 v15 v16 v138 v148 v160 k p q, k0_pay29 v5 v15 v16 v148 v160 v166 v169 k⟩
    iprop(in1 c w1C p ∗ in2 c w2C q) iprop(in1 c w1C p ∗ in2 c w2C q) := by
  intro Q
  simp only [onBufs, k0_part8_eq_skeleton]; unfold k0_part8_skel
  simp only [Prog.lift, Prog.bind_op, Prog.bind_ret, Prog.pure_eq_ret]
  iintro HP Hk
  iapply (load12 c) $$ HP; iintro HP
  simp only [run, wp_ret]; imodintro
  iapply Hk
  iexact HP

theorem run9 (c : Dev nD) {O : CellTallies nD τ sig Unit} (hO : Above 0 O) (v : FVec F S512x1024 .f32) (v' : FVec F S192x1024 .f32) (v'' : FVec F S512x192 .f32)
    (p : Vec F S1x1024x2048 .f32) (q : Vec F S1x2048x1024 .f32) :
    Runs c (onBufs (k0_part9 (F := F)) v v' v'') ⟨k0_pay30 v v' v'', 4#32⟩
    iprop(levAts L lv ∗ (held c e1M fullShare.left (w1B m c) ∗ held c e2M fullShare.left (w2B m c) ∗ in1 c w1A p ∗ in2 c w2A q ∗ z c wA ∗ z c wB) ∗ ow (F := F) c O)
    iprop(ow (F := F) c O ∗ held c e1M fullShare.left (w1B m c) ∗ held c e2M fullShare.left (w2B m c) ∗ in1 c w1A (p2 (w1B m c)) ∗ in2 c w2A (q2 (w2B m c)) ∗ z (F := F) c wA ∗ z (F := F) c wB) := by
  intro Q
  unfold p2 q2
  simp only [onBufs, k0_part9_eq_skeleton]; unfold k0_part9_skel
  simp only [Prog.lift, Prog.bind_op, Prog.bind_ret, Prog.pure_eq_ret]
  iintro ⟨#HL, H, HO⟩ Hk
  iapply (start12 m c) $$ H
  iintro ⟨H1, H2⟩
  iapply (wait12 m c hO (by decide) (by decide)) $$ [H1 H2 HO]
  · isplitr; · iexact HL
    isplitl [H1]; · iexact H1
    isplitl [H2] <;> iassumption
  iintro H
  simp only [run, wp_ret]; imodintro
  iapply Hk
  iexact H

theorem run10 (c : Dev nD) (v5 : BitVec 32) (v15 : FVec F S512x512 .f32) (v16 : IVec S512x192 32) (v138 : Vec F S512x1024 .f32) (v148 v160 : IVec S512x1 32) (v166 v169 : FVec F S512x1 .f32) (k : BitVec 32)
    (p : Vec F S1x1024x2048 .f32) (q : Vec F S1x2048x1024 .f32) :
    Runs c (onBufs (k0_part10 (F := F)) v5 v15 v16 v138 v148 v160 v166 v169 k) ⟨k0_pay32 v5 v15 v16 v138 v148 v160 k p q, k0_pay33 v5 v15 v16 v148 v160 v166 v169 k⟩
    iprop(in1 c w1A p ∗ in2 c w2A q) iprop(in1 c w1A p ∗ in2 c w2A q) := by
  intro Q
  simp only [onBufs, k0_part10_eq_skeleton]; unfold k0_part10_skel
  simp only [Prog.lift, Prog.bind_op, Prog.bind_ret, Prog.pure_eq_ret]
  iintro HP Hk
  iapply (load12 c) $$ HP; iintro HP
  simp only [run, wp_ret]; imodintro
  iapply Hk
  iexact HP

theorem run11 (c : Dev nD) {O : CellTallies nD τ sig Unit} (hO : Above 0 O) (v : FVec F S512x1024 .f32) (v' : FVec F S192x1024 .f32) (v'' : FVec F S512x192 .f32)
    (p : Vec F S1x1024x2048 .f32) (q : Vec F S1x2048x1024 .f32) :
    Runs c (onBufs (k0_part11 (F := F)) v v' v'') ⟨k0_pay34 v v' v'', 4#32⟩
    iprop(levAts L lv ∗ (held c e1M fullShare.right (w1B m c) ∗ held c e2M fullShare.right (w2B m c) ∗ in1 c w1C p ∗ in2 c w2C q ∗ z c wC ∗ z c wD) ∗ ow (F := F) c O)
    iprop(ow (F := F) c O ∗ held c e1M fullShare.right (w1B m c) ∗ held c e2M fullShare.right (w2B m c) ∗ in1 c w1C (p3 (w1B m c)) ∗ in2 c w2C (q3 (w2B m c)) ∗ z (F := F) c wC ∗ z (F := F) c wD) := by
  intro Q
  unfold p3 q3
  simp only [onBufs, k0_part11_eq_skeleton]; unfold k0_part11_skel
  simp only [Prog.lift, Prog.bind_op, Prog.bind_ret, Prog.pure_eq_ret]
  iintro ⟨#HL, H, HO⟩ Hk
  iapply (start12 m c) $$ H
  iintro ⟨H1, H2⟩
  iapply (wait12 m c hO (by decide) (by decide)) $$ [H1 H2 HO]
  · isplitr; · iexact HL
    isplitl [H1]; · iexact H1
    isplitl [H2] <;> iassumption
  iintro H
  simp only [run, wp_ret]; imodintro
  iapply Hk
  iexact H

theorem run12 (c : Dev nD) (v5 : BitVec 32) (v15 : FVec F S512x512 .f32) (v16 : IVec S512x192 32) (v138 : Vec F S512x1024 .f32) (v148 v160 : IVec S512x1 32) (v166 v169 : FVec F S512x1 .f32) (k : BitVec 32)
    (p : Vec F S1x1024x2048 .f32) (q : Vec F S1x2048x1024 .f32) :
    Runs c (onBufs (k0_part12 (F := F)) v5 v15 v16 v138 v148 v160 v166 v169 k) ⟨k0_pay36 v5 v15 v16 v138 v148 v160 k p q, k0_pay37 v5 v15 v16 v148 v160 v166 v169 k⟩
    iprop(in1 c w1C p ∗ in2 c w2C q) iprop(in1 c w1C p ∗ in2 c w2C q) := by
  intro Q
  simp only [onBufs, k0_part12_eq_skeleton]; unfold k0_part12_skel
  simp only [Prog.lift, Prog.bind_op, Prog.bind_ret, Prog.pure_eq_ret]
  iintro HP Hk
  iapply (load12 c) $$ HP; iintro HP
  simp only [run, wp_ret]; imodintro
  iapply Hk
  iexact HP

theorem run13 (K : Dev nD × Fin 7 → ℕ) (c : Dev nD) (v2 v5 v8 v9 : BitVec 32) (v15 : FVec F S512x512 .f32) (v16 : IVec S512x192 32) (v106 v118 : IVec S512x1 32) (v124 v127 : FVec F S512x1 .f32)
    (v345 : FVec F S512x1024 .f32) (v408 : FVec F S192x1024 .f32) (v410 : FVec F S512x192 .f32) (hv : k0_pay38 v345 v408 v410 = sentB m c) :
    Runs c (onBufs (k0_part13 (F := F)) c v2 v5 v8 v9 v15 v16 v106 v118 v124 v127 v345 v408 v410)
    ⟨k0_pay39 v5 v106 v118 v124 v127, k0_pay41 v5 v15 v16 v106 v118, k0_pay42 v5 v106 v118⟩
    iprop(records m K ∗ ow (F := F) c (OP c) ∗ (∃ X, held (F := F) c ppM fullShare X) ∗ (∃ X, held (F := F) (peer c) rvM fullShare X)
      ∗ dutyTok ER (kcell (c, 5)) 0 () ∗ dutyTok ER (kcell (peer c, 6)) 0 ())
    iprop(ow (F := F) c 0 ∗ cred (tallyAt (kcell (c, 5)) () NP)) := by
  intro Q
  simp only [onBufs, k0_part13_eq_skeleton]; unfold k0_part13_skel
  simp only [Prog.lift, Prog.bind_op, Prog.bind_ret, Prog.pure_eq_ret]
  iintro ⟨#HR, HO, ⟨%X, Hp⟩, ⟨%Y, Hr⟩, Ht5, Ht6⟩ Hk
  iapply (load_whole c (defs₀ (F := F)) 𝒱₀) $$ Hp; iintro Hp
  iapply (store_pp c) $$ Hp; iintro Hp
  rw [hv]
  iapply (send_own m K c 5 6 (dev4_eq c) (dst := rvM) rfl rfl NP rfl rfl rfl (O := 0) (zero_add _).symm (X := sentB m c) (Y := Y) (by exact BIBase.Entails.rfl)
    (by show _ ⊢ pay m (peer c) 6; unfold pay; dsimp; rw [peer_peer])) $$ [HO Hp Hr Ht5 Ht6]
  · isplitr; · iexact HR
    isplitl [Hp]; · iexact Hp
    isplitl [Hr]; · iexact Hr
    isplitl [HO]; · iexact HO
    isplitl [Ht5] <;> iassumption
  iintro ⟨Hc, HO⟩
  simp only [run, wp_ret]; imodintro
  iapply Hk
  isplitl [HO] <;> iassumption

theorem run14 (c : Dev nD) (v5 : BitVec 32) (v15 : FVec F S512x512 .f32) (v96 : FVec F S512x1024 .f32) (v106 v118 : IVec S512x1 32) (v124 v127 : FVec F S512x1 .f32) (v436 : FVec F S512x1 .f32) (v450 v451 : IVec S512x192 1)
    (p : Vec F S1x1024x2048 .f32) (q : Vec F S1x2048x1024 .f32) :
    Runs c (onBufs (k0_part14 (F := F)) v5 v15 v96 v106 v118 v124 v127 v436 v450 v451) ⟨k0_pay43 v96 v436 v450 v451 p q, k0_pay44 v5 v106 v118 v124 v127, k0_pay45 v5 v106 v118, k0_pay46 v5 v15 v106 v118⟩
    iprop(in1 c w1A p ∗ in2 c w2A q) iprop(in1 c w1A p ∗ in2 c w2A q) := by
  intro Q
  simp only [onBufs, k0_part14_eq_skeleton]; unfold k0_part14_skel
  simp only [Prog.lift, Prog.bind_op, Prog.bind_ret, Prog.pure_eq_ret]
  iintro HP Hk
  iapply (load12 c) $$ HP; iintro HP
  simp only [run, wp_ret]; imodintro
  iapply Hk
  iexact HP

theorem run15 (c : Dev nD) (v16 : IVec S512x192 32) (v96 v : FVec F S512x1024 .f32) (w : FVec F S512x1 .f32) (w' : IVec S512x1 1) (w'' : IVec S512x1 32)
    (p p' : Vec F S1x1024x2048 .f32) (q : Vec F S1x2048x1024 .f32) :
    Runs c (onBufs (k0_part15 (F := F)) v16 v96 v w w' w'') (k0_pay47 v16 v96 v w w' w'' p q)
    iprop((in1 c w1C p ∗ in2 c w2C q) ∗ held c e1M fullShare.left (w1B m c) ∗ in1 c w1A p' ∗ z c wA)
    iprop((in1 c w1C p ∗ in2 c w2C q) ∗ go1 m c ![0, 0, 0] inb_S4x1024x2048_S1x1024x2048_0_0_0 w1A wA fullShare.left) := by
  intro Q
  simp only [onBufs, k0_part15_eq_skeleton]; unfold k0_part15_skel
  simp only [Prog.lift, Prog.bind_op, Prog.bind_ret, Prog.pure_eq_ret]
  iintro ⟨HP, H⟩ Hk
  iapply (load12 c) $$ HP; iintro HP
  iapply (start1 m c) $$ H; iintro H
  simp only [run, wp_ret]; imodintro
  iapply Hk
  isplitl [HP] <;> iassumption

theorem run16 (c : Dev nD) {O : CellTallies nD τ sig Unit} (hO : Above 0 O) (v5 : BitVec 32) (v15 : FVec F S512x512 .f32) (v106 v118 : IVec S512x1 32) (v124 v127 : FVec F S512x1 .f32)
    (q : Vec F S1x2048x1024 .f32) :
    Runs c (onBufs (k0_part16 (F := F)) v5 v15 v106 v118 v124 v127) ⟨k0_pay48 v5 v106 v118 v124 v127, k0_pay49 v5 v106 v118, k0_pay50 v5 v15 v106 v118⟩
    iprop(levAts L lv ∗ go1 m c ![0, 0, 0] inb_S4x1024x2048_S1x1024x2048_0_0_0 w1A wA fullShare.left ∗ (held c e2M fullShare.left (w2B m c) ∗ in2 c w2A q ∗ z c wB) ∗ ow (F := F) c O)
    iprop(ow (F := F) c O ∗ held c e1M fullShare.left (w1B m c) ∗ held c e2M fullShare.left (w2B m c) ∗ in1 c w1A (p0 (w1B m c)) ∗ in2 c w2A (q0 (w2B m c)) ∗ z (F := F) c wA ∗ z (F := F) c wB) := by
  intro Q
  unfold p0 q0
  simp only [onBufs, k0_part16_eq_skeleton]; unfold k0_part16_skel
  simp only [Prog.lift, Prog.bind_op, Prog.bind_ret, Prog.pure_eq_ret]
  iintro ⟨#HL, H1, H, HO⟩ Hk
  iapply (start2 m c) $$ H
  iintro H2
  iapply (wait12 m c hO (by decide) (by decide)) $$ [H1 H2 HO]
  · isplitr; · iexact HL
    isplitl [H1]; · iexact H1
    isplitl [H2] <;> iassumption
  iintro H
  simp only [run, wp_ret]; imodintro
  iapply Hk
  iexact H

theorem run17 (c : Dev nD) (v16 : IVec S512x192 32) (v96 v : FVec F S512x1024 .f32) (w : FVec F S512x1 .f32) (w' : IVec S512x1 1) (w'' : IVec S512x1 32)
    (p p' : Vec F S1x1024x2048 .f32) (q : Vec F S1x2048x1024 .f32) :
    Runs c (onBufs (k0_part17 (F := F)) v16 v96 v w w' w'') (k0_pay51 v16 v96 v w w' w'' p q)
    iprop((in1 c w1A p ∗ in2 c w2A q) ∗ held c e1M fullShare.right (w1B m c) ∗ in1 c w1C p' ∗ z c wC)
    iprop((in1 c w1A p ∗ in2 c w2A q) ∗ go1 m c ![1, 0, 0] inb_S4x1024x2048_S1x1024x2048_1_0_0 w1C wC fullShare.right) := by
  intro Q
  simp only [onBufs, k0_part17_eq_skeleton]; unfold k0_part17_skel
  simp only [Prog.lift, Prog.bind_op, Prog.bind_ret, Prog.pure_eq_ret]
  iintro ⟨HP, H⟩ Hk
  iapply (load12 c) $$ HP; iintro HP
  iapply (start1 m c) $$ H; iintro H
  simp only [run, wp_ret]; imodintro
  iapply Hk
  isplitl [HP] <;> iassumption

theorem run18 (c : Dev nD) {O : CellTallies nD τ sig Unit} (hO : Above 0 O) (v5 : BitVec 32) (v15 : FVec F S512x512 .f32) (v106 v118 : IVec S512x1 32) (v124 v127 : FVec F S512x1 .f32)
    (q : Vec F S1x2048x1024 .f32) :
    Runs c (onBufs (k0_part18 (F := F)) v5 v15 v106 v118 v124 v127) ⟨k0_pay52 v5 v106 v118 v124 v127, k0_pay53 v5 v106 v118, k0_pay54 v5 v15 v106 v118⟩
    iprop(levAts L lv ∗ go1 m c ![1, 0, 0] inb_S4x1024x2048_S1x1024x2048_1_0_0 w1C wC fullShare.right ∗ (held c e2M fullShare.right (w2B m c) ∗ in2 c w2C q ∗ z c wD) ∗ ow (F := F) c O)
    iprop(ow (F := F) c O ∗ held c e1M fullShare.right (w1B m c) ∗ held c e2M fullShare.right (w2B m c) ∗ in1 c w1C (p1 (w1B m c)) ∗ in2 c w2C (q1 (w2B m c)) ∗ z (F := F) c wC ∗ z (F := F) c wD) := by
  intro Q
  unfold p1 q1
  simp only [onBufs, k0_part18_eq_skeleton]; unfold k0_part18_skel
  simp only [Prog.lift, Prog.bind_op, Prog.bind_ret, Prog.pure_eq_ret]
  iintro ⟨#HL, H1, H, HO⟩ Hk
  iapply (start2 m c) $$ H
  iintro H2
  iapply (wait12 m c hO (by decide) (by decide)) $$ [H1 H2 HO]
  · isplitr; · iexact HL
    isplitl [H1]; · iexact H1
    isplitl [H2] <;> iassumption
  iintro H
  simp only [run, wp_ret]; imodintro
  iapply Hk
  iexact H

theorem run19 (K : Dev nD × Fin 7 → ℕ) (c : Dev nD) (v2 v8 v9 : BitVec 32) (v16 : IVec S512x192 32) (v96 v : FVec F S512x1024 .f32) (w : FVec F S512x1 .f32) (w' : IVec S512x1 1) (w'' : IVec S512x1 32)
    (p : Vec F S1x1024x2048 .f32) (q : Vec F S1x2048x1024 .f32) :
    Runs c (onBufs (k0_part19 (F := F)) v2 v8 v9 v16 v96 v w w' w'') (k0_pay55 v16 v96 v w w' w'' p q (sentB m (peer c)))
    iprop(records m K ∗ levAts L lv ∗ ow (F := F) c 0 ∗ (in1 c w1C p ∗ in2 c w2C q) ∗ cred (tallyAt (kcell (c, 5)) () NP) ∗ cred (tallyAt (kcell (c, 6)) () NP)
      ∗ atPos ER (kcell (c, 5)) 0 ∅ 0 ∗ atPos ER (kcell (c, 6)) 0 ∅ 0)
    iprop(ow (F := F) c 0 ∗ (in1 c w1C p ∗ in2 c w2C q) ∗ semVal (kcell (c, 5)) 0 ∗ semVal (kcell (c, 6)) 0 ∗ held c ppM fullShare (sentB m c)
      ∗ held c rvM fullShare (sentB m (peer c))) := by
  intro Q
  simp only [onBufs, k0_part19_eq_skeleton]; unfold k0_part19_skel
  simp only [Prog.lift, Prog.bind_op, Prog.bind_ret, Prog.pure_eq_ret]
  iintro ⟨#HR, #HL, HO, HP, Hc5, Hc6, Ha5, Ha6⟩ Hk
  iapply (load12 c) $$ HP; iintro HP
  iapply (wait_own m K c 5 (wpE_waitDma2_eq 𝒱₀ (c : Thread nD τ) none Set.univ) rfl (v := 3) (by decide) (above_zero 3)) $$ [Hc5 Ha5 HO]
  · isplitr; · iexact HR
    isplitr; · iexact HL
    isplitl [Hc5]; · iexact Hc5
    isplitl [Ha5] <;> iassumption
  iintro ⟨HO, Hz5, Hp5⟩
  iapply (wait_own m K c 6 (wpE_waitDma2_eq 𝒱₀ (c : Thread nD τ) none Set.univ) rfl (v := 3) (by decide) (above_zero 3)) $$ [Hc6 Ha6 HO]
  · isplitr; · iexact HR
    isplitr; · iexact HL
    isplitl [Hc6]; · iexact Hc6
    isplitl [Ha6] <;> iassumption
  iintro ⟨HO, Hz6, Hp6⟩
  ihave Hp5 := (show pay m c 5 ⊢ held c ppM fullShare (sentB m c) from BIBase.Entails.rfl) $$ Hp5
  ihave Hp6 := (show pay m c 6 ⊢ held c rvM fullShare (sentB m (peer c)) from BIBase.Entails.rfl) $$ Hp6
  iapply (load_whole c (defs₀ (F := F)) 𝒱₀) $$ Hp6; iintro Hp6
  simp only [run, wp_ret]; imodintro
  iapply Hk
  isplitl [HO]; · iexact HO
  isplitl [HP]; · iexact HP
  isplitl [Hz5]; · iexact Hz5
  isplitl [Hz6]; · iexact Hz6
  isplitl [Hp5] <;> iassumption

end Cert.MoeProof
end
-- ==== Proof.Body.lean ====
/- The whole body: the scratch buffers' slots, the parts in order, the body's obligation. -/
module

public import proofs.«01_k».proof.Proof.Experts

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## A buffer of two slots -/

section Two
variable (c : Dev nD) (b : Ref sig .tc) {s' : Shape} {r₀ r₁ : Rect b.ty.shape} {h₀ : ∀ a, r₀.stride a = 1} {h₁ : ∀ a, r₁.stride a = 1}
  {q₀ : r₀.shape.Squeezes s'} {q₁ : r₁.shape.Squeezes s'}

theorem slot_set {r : Rect b.ty.shape} {h : ∀ a, r.stride a = 1} {q : r.shape.Squeezes s'} :
    (((Memref.whole b : Memref sig .tc _ _ _).slice r h).squeeze s' q).view.set = r.set := by
  rw [Memref.set_view_squeeze]; exact View.set_slice_whole _ _

/-- A buffer of two slots is its slots, at any contents. -/
theorem two_slots (hd : Disjoint r₀.set r₁.set) (hu : r₀.set ∪ r₁.set = Finset.univ) :
    (iprop(∃ X, held (F := F) c (Memref.whole b) fullShare X) : sProp 𝕄)
      ⊣⊢ iprop((∃ X, held (F := F) c (((Memref.whole b : Memref sig .tc _ _ _).slice r₀ h₀).squeeze s' q₀) fullShare X)
        ∗ ∃ X, held (F := F) c (((Memref.whole b : Memref sig .tc _ _ _).slice r₁ h₁).squeeze s' q₁) fullShare X) := by
  have hs : ∀ g : Buf (Elt F) ((c : Thread nD τ).loc b), ((c : Thread nD τ).loc b ↦[r₀.set ∪ r₁.set]{fullShare} g : sProp 𝕄)
      = held c (Memref.whole b) fullShare g := fun g => by rw [hu]; exact held_whole c b fullShare g
  have e₀ : ∀ g : Buf (Elt F) ((c : Thread nD τ).loc b), ((c : Thread nD τ).loc b ↦[r₀.set]{fullShare} g : sProp 𝕄)
      = held c (((Memref.whole b : Memref sig .tc _ _ _).slice r₀ h₀).squeeze s' q₀) fullShare
        ((((Memref.whole b : Memref sig .tc _ _ _).slice r₀ h₀).squeeze s' q₀).view.read (Elt F) g) := fun g => by
    rw [← held_of, slot_set]
  have e₁ : ∀ g : Buf (Elt F) ((c : Thread nD τ).loc b), ((c : Thread nD τ).loc b ↦[r₁.set]{fullShare} g : sProp 𝕄)
      = held c (((Memref.whole b : Memref sig .tc _ _ _).slice r₁ h₁).squeeze s' q₁) fullShare
        ((((Memref.whole b : Memref sig .tc _ _ _).slice r₁ h₁).squeeze s' q₁).view.read (Elt F) g) := fun g => by
    rw [← held_of, slot_set]
  constructor
  · iintro ⟨%X, H⟩
    ihave H := (Entails.of_eq (hs X).symm) $$ H
    ihave H := (pointsTo_union hd).1 $$ H
    icases H with ⟨H₀, H₁⟩
    isplitl [H₀]
    · iexists _; iapply (Entails.of_eq (e₀ X)); iexact H₀
    · iexists _; iapply (Entails.of_eq (e₁ X)); iexact H₁
  · have a₀ : ∀ X, (held (F := F) c (((Memref.whole b : Memref sig .tc _ _ _).slice r₀ h₀).squeeze s' q₀) fullShare X : sProp 𝕄)
        = ((c : Thread nD τ).loc b ↦[r₀.set]{fullShare} ((((Memref.whole b : Memref sig .tc _ _ _).slice r₀ h₀).squeeze s' q₀).view.rep X)) := fun X => by
      rw [e₀, View.read_rep]
    have a₁ : ∀ X, (held (F := F) c (((Memref.whole b : Memref sig .tc _ _ _).slice r₁ h₁).squeeze s' q₁) fullShare X : sProp 𝕄)
        = ((c : Thread nD τ).loc b ↦[r₁.set]{fullShare} ((((Memref.whole b : Memref sig .tc _ _ _).slice r₁ h₁).squeeze s' q₁).view.rep X)) := fun X => by
      rw [e₁, View.read_rep]
    iintro ⟨⟨%X, H₀⟩, ⟨%Y, H₁⟩⟩
    ihave H₀ := (Entails.of_eq (a₀ X)) $$ H₀
    ihave H₁ := (Entails.of_eq (a₁ Y)) $$ H₁
    iexists _
    iapply (Entails.of_eq (hs _))
    iapply (pointsTo_join hd)
    isplitl [H₀] <;> iassumption

end Two

/-- The two halves of a first axis of extent two. -/
theorem halves3 {n₁ n₂ : ℕ} {o o' : Fin 3 → ℕ} (ho : o = ![0, 0, 0]) (ho' : o' = ![1, 0, 0])
    (i : ∀ a, o a + (⟨3, ![1, n₁, n₂]⟩ : Shape).size a ≤ (⟨3, ![2, n₁, n₂]⟩ : Shape).size a)
    (i' : ∀ a, o' a + (⟨3, ![1, n₁, n₂]⟩ : Shape).size a ≤ (⟨3, ![2, n₁, n₂]⟩ : Shape).size a) :
    Disjoint (Rect.unit (s := ⟨3, ![2, n₁, n₂]⟩) o (⟨3, ![1, n₁, n₂]⟩ : Shape).size i).set (Rect.unit (s := ⟨3, ![2, n₁, n₂]⟩) o' (⟨3, ![1, n₁, n₂]⟩ : Shape).size i').set
      ∧ (Rect.unit (s := ⟨3, ![2, n₁, n₂]⟩) o (⟨3, ![1, n₁, n₂]⟩ : Shape).size i).set ∪ (Rect.unit (s := ⟨3, ![2, n₁, n₂]⟩) o' (⟨3, ![1, n₁, n₂]⟩ : Shape).size i').set
        = Finset.univ := by
  subst ho ho'
  constructor
  · rw [Finset.disjoint_left]
    intro x hx hx'
    have h := (Rect.mem_set_unit.mp hx 0).2
    have h' := (Rect.mem_set_unit.mp hx' 0).1
    simp at h h'
    omega
  · apply Finset.eq_univ_of_forall
    intro x
    have h0 : (x 0).val < 2 := (x 0).isLt
    have h1 : (x 1).val < n₁ := (x 1).isLt
    have h2 : (x 2).val < n₂ := (x 2).isLt
    rw [Finset.mem_union, Rect.mem_set_unit, Rect.mem_set_unit]
    by_cases h : (x 0).val = 0
    · left; intro a; fin_cases a <;> simp <;> omega
    · right; intro a; fin_cases a <;> simp <;> omega

/-- The router buffer's slots: the device's own and its peer's. -/
theorem rf_slots (c : Dev nD) : (iprop(∃ X, held (F := F) c rfM fullShare X) : sProp 𝕄)
    ⊣⊢ iprop((∃ X, held (F := F) c (rfD c) fullShare X) ∗ ∃ X, held (F := F) c (rfD (peer c)) fullShare X) := by
  rcases place c with ⟨h0, h1, -, -⟩ | ⟨h0, h1, -, -⟩
  · obtain ⟨hd, hu⟩ := halves3 (n₁ := 1024) (n₂ := 4) h0 h1 (k0_off2_inb c) (k0_off2_inb (peer c))
    exact two_slots c cc0_scratch3 (q₀ := squeezes_S1x1024x4_S1024x4) (q₁ := squeezes_S1x1024x4_S1024x4) hd hu
  · obtain ⟨hd, hu⟩ := halves3 (n₁ := 1024) (n₂ := 4) h1 h0 (k0_off2_inb (peer c)) (k0_off2_inb c)
    have h := two_slots (F := F) c cc0_scratch3 (s' := S1024x4) (h₀ := fun _ => rfl) (h₁ := fun _ => rfl) (q₀ := squeezes_S1x1024x4_S1024x4) (q₁ := squeezes_S1x1024x4_S1024x4) hd hu
    exact ⟨h.1.trans sep_comm.1, sep_comm.1.trans h.2⟩

theorem in1_any (c : Dev nD) (dst : Memref sig .tc .vmem S1024x2048 .f32) :
    (iprop(∃ X, held (F := F) c dst fullShare X) : sProp 𝕄) ⊣⊢ iprop(∃ p, in1 (F := F) c dst p) := by
  constructor
  · iintro ⟨%X, H⟩
    iexists (shapeCast S1x1024x2048 X casts1.symm)
    unfold in1
    rw [shapeCast_shapeCast]
    iexact H
  · unfold in1
    iintro ⟨%X, H⟩
    iexists _; iexact H

theorem in2_any (c : Dev nD) (dst : Memref sig .tc .vmem S2048x1024 .f32) :
    (iprop(∃ X, held (F := F) c dst fullShare X) : sProp 𝕄) ⊣⊢ iprop(∃ p, in2 (F := F) c dst p) := by
  constructor
  · iintro ⟨%X, H⟩
    iexists (shapeCast S1x2048x1024 X casts2.symm)
    unfold in2
    rw [shapeCast_shapeCast]
    iexact H
  · unfold in2
    iintro ⟨%X, H⟩
    iexists _; iexact H

theorem w1_slots (c : Dev nD) : (iprop(∃ X, held (F := F) c w1M fullShare X) : sProp 𝕄) ⊣⊢ iprop((∃ p, in1 (F := F) c w1A p) ∗ ∃ p, in1 (F := F) c w1C p) := by
  obtain ⟨hd, hu⟩ := halves3 (n₁ := 1024) (n₂ := 2048) rfl rfl inb_S2x1024x2048_S1x1024x2048_0_0_0 inb_S2x1024x2048_S1x1024x2048_1_0_0
  have h := two_slots (F := F) c cc0_scratch0 (s' := S1024x2048) (h₀ := fun _ => rfl) (h₁ := fun _ => rfl) (q₀ := squeezes_S1x1024x2048_S1024x2048) (q₁ := squeezes_S1x1024x2048_S1024x2048) hd hu
  exact ⟨h.1.trans (BIClass.sep_mono (in1_any c w1A).1 (in1_any c w1C).1), (BIClass.sep_mono (in1_any c w1A).2 (in1_any c w1C).2).trans h.2⟩

theorem w2_slots (c : Dev nD) : (iprop(∃ X, held (F := F) c w2M fullShare X) : sProp 𝕄) ⊣⊢ iprop((∃ p, in2 (F := F) c w2A p) ∗ ∃ p, in2 (F := F) c w2C p) := by
  obtain ⟨hd, hu⟩ := halves3 (n₁ := 2048) (n₂ := 1024) rfl rfl inb_S2x2048x1024_S1x2048x1024_0_0_0 inb_S2x2048x1024_S1x2048x1024_1_0_0
  have h := two_slots (F := F) c cc0_scratch1 (s' := S2048x1024) (h₀ := fun _ => rfl) (h₁ := fun _ => rfl) (q₀ := squeezes_S1x2048x1024_S2048x1024) (q₁ := squeezes_S1x2048x1024_S2048x1024) hd hu
  exact ⟨h.1.trans (BIClass.sep_mono (in2_any c w2A).1 (in2_any c w2C).1), (BIClass.sep_mono (in2_any c w2A).2 (in2_any c w2C).2).trans h.2⟩

/-! ## The parts in order -/

theorem Runs.bind {c : Dev nD} {α β : Type} {p : Prog (TpuEff nD τ sig (Elt F) Λ₀ .tc) α} {v : α} {P R : sProp 𝕄} (h : Runs c p v P R)
    {k : α → Prog (TpuEff nD τ sig (Elt F) Λ₀ .tc) β} {Q : β → sProp 𝕄} : P ⊢ iprop((R -∗ run c (k v) Q) -∗ run c (p >>= k) Q) := by
  unfold run
  rw [wp_bind]
  exact h fun a => wp frame (wpE (defs₀ (F := F)) 𝒱₀ (c : Thread nD τ) none) Set.univ (k a) Q

theorem payToks_eq (c : Dev nD) : (payToks (F := F) c : sProp 𝕄) = iprop(dutyTok ER (kcell (peer c, 0)) 0 () ∗ dutyTok ER (kcell (c, 1)) 0 ()
    ∗ dutyTok ER (kcell (peer c, 2)) 0 () ∗ dutyTok ER (kcell (c, 3)) 0 () ∗ dutyTok ER (kcell (peer c, 4)) 0 () ∗ dutyTok ER (kcell (c, 5)) 0 ()
    ∗ dutyTok ER (kcell (peer c, 6)) 0 ()) := bigSep_fin7 _

/-- What the body leaves, the device's result block among it. -/
def done (c : Dev nD) : sProp 𝕄 :=
  iprop(Φ₁ m c ∗ ow (F := F) c 0 ∗ held c xM fullShare (xB m c) ∗ held c rtM fullShare (rB m c) ∗ held c oM fullShare (outB m c))

theorem run_body (K : Dev nD × Fin 7 → ℕ) (c : Dev nD) : Runs c (onBufs (cc0_body (F := F))) ⟨⟩
    iprop(ghost m K c ∗ wSems (F := F) c ∗ creds (F := F) c ∗ levAts L lv ∗ weights m c ∗ scratch (F := F) c ∗ ow (F := F) c (O₀ c)
      ∗ held c xM fullShare (xB m c) ∗ held c rtM fullShare (rB m c) ∗ (∃ X, held (F := F) c oM fullShare X)) (done m c) := by
  intro Q
  simp only [onBufs, cc0_body_eq_skeleton]; unfold cc0_body_skel
  unfold ghost wSems creds weights scratch spots
  rw [bigSep_fin7, payToks_eq]
  iintro ⟨⟨#HR, ⟨a0, a1, a2, a3, a4, a5, a6⟩, ⟨t0, t1, t2, t3, t4, t5, t6⟩⟩, ⟨zA, zB, zC, zD⟩, ⟨c0, c2, c4, c6⟩, #HL, ⟨e1, e2⟩,
    ⟨Hw1, Hw2, Hxa, Hrf, Hpp, Hrv⟩, HO, Hx, Hrt, Ho⟩ Hk
  ihave Hrf := (rf_slots c).1 $$ Hrf
  icases Hrf with ⟨Hrf, Hrf'⟩
  ihave Hw1 := (w1_slots c).1 $$ Hw1
  icases Hw1 with ⟨HwA, HwC⟩
  ihave Hw2 := (w2_slots c).1 $$ Hw2
  icases Hw2 with ⟨HvA, HvC⟩
  ihave e1 := (held_halves c e1M (w1B m c)).1 $$ e1
  icases e1 with ⟨e1l, e1r⟩
  ihave e2 := (held_halves c e2M (w2B m c)).1 $$ e2
  icases e2 with ⟨e2l, e2r⟩
  iapply (Runs.bind (run1 m K c)) $$ [HO c0 a0 t0 Hxa Hrf' Hrv Hrt Hrf]
  · isplitr; · iexact HR
    isplitr; · iexact HL
    isplitl [HO]; · iexact HO
    isplitl [c0]; · iexact c0
    isplitl [a0]; · iexact a0
    isplitl [t0]; · iexact t0
    isplitl [Hxa]; · iexact Hxa
    isplitl [Hrf']; · iexact Hrf'
    isplitl [Hrv]; · iexact Hrv
    isplitl [Hrt] <;> iassumption
  iintro ⟨HO, y0, Hp, Hrt, Hrf⟩
  ihave Hp := (show pay m c 0 ⊢ iprop((∃ X, held (F := F) (peer c) xaM fullShare X) ∗ (∃ X, held (F := F) (peer c) (rfD c) fullShare X)
    ∗ (∃ X, held (F := F) (peer c) rvM fullShare X)) from BIBase.Entails.rfl) $$ Hp
  icases Hp with ⟨Pxa, Prf, Prv⟩
  dsimp only
  iapply (Runs.bind (run2 m K c _ _ _ _)) $$ [HO Hrt Hx Prf Pxa t1 t2 t3 t4 a1]
  · isplitr; · iexact HR
    isplitr; · iexact HL
    isplitl [HO]; · iexact HO
    isplitl [Hrt]; · iexact Hrt
    isplitl [Hx]; · iexact Hx
    isplitl [Prf]; · iexact Prf
    isplitl [Pxa]; · iexact Pxa
    isplitl [t1]; · iexact t1
    isplitl [t2]; · iexact t2
    isplitl [t3]; · iexact t3
    isplitl [t4] <;> iassumption
  iintro ⟨HO, Hx, c3, y1, Hrt⟩
  iapply (Runs.bind (run3 m K c)) $$ [HO c2 a2 Hrf e1l e1r e2l HwA HvA HwC zA zB zC]
  · isplitr; · iexact HR
    isplitr; · iexact HL
    isplitl [HO]; · iexact HO
    isplitl [c2]; · iexact c2
    isplitl [a2]; · iexact a2
    isplitl [Hrf]; · iexact Hrf
    isplitl [e1l]; · iexact e1l
    isplitl [e1r]; · iexact e1r
    isplitl [e2l]; · iexact e2l
    isplitl [HwA]; · iexact HwA
    isplitl [HvA]; · iexact HvA
    isplitl [HwC]; · iexact HwC
    isplitl [zA]; · iexact zA
    isplitl [zB] <;> iassumption
  iintro ⟨HO, y2, Hs0, Hs1, g1A, g2A, g1C⟩
  iapply (Runs.bind (run4 m K c (rF m c))) $$ [HO c3 a3 Hx e2r HvC zD]
  · isplitr; · iexact HR
    isplitr; · iexact HL
    isplitl [HO]; · iexact HO
    isplitl [c3]; · iexact c3
    isplitl [a3]; · iexact a3
    isplitl [Hx]; · iexact Hx
    isplitl [e2r]; · iexact e2r
    isplitl [HvC] <;> iassumption
  iintro ⟨HO, y3, Hx, g2C⟩
  dsimp only
  iapply (Runs.bind (run5 m K c _ _ _ (rF m c))) $$ [HO c4 a4]
  · isplitr; · iexact HR
    isplitr; · iexact HL
    isplitl [HO]; · iexact HO
    isplitl [c4] <;> iassumption
  iintro ⟨HO, y4, Hxa⟩
  dsimp only
  iapply (Runs.bind (run6 m c ((above_OP c).mono (Nat.zero_le _)) _ _ _ _ _ _)) $$ [HO g1A g2A]
  · isplitr; · iexact HL
    isplitl [g1A]; · iexact g1A
    isplitl [g2A] <;> iassumption
  iintro ⟨HO, e1l, e2l, i1A, i2A, zA, zB⟩
  dsimp only
  iapply (Runs.bind (run7 m c ((above_OP c).mono (Nat.zero_le _)) _ _ _ _ _ (p0 (w1B m c)) (q0 (w2B m c)))) $$ [HO g1C g2C i1A i2A]
  · isplitr; · iexact HL
    isplitl [i1A i2A]
    · isplitl [i1A] <;> iassumption
    isplitl [g1C]; · iexact g1C
    isplitl [g2C] <;> iassumption
  iintro ⟨⟨i1A, i2A⟩, HO, e1r, e2r, i1C, i2C, zC, zD⟩
  dsimp only
  iapply (Runs.bind (run8 c _ _ _ _ _ _ _ _ _ (p1 (w1B m c)) (q1 (w2B m c)))) $$ [i1C i2C]
  · isplitl [i1C] <;> iassumption
  iintro ⟨i1C, i2C⟩
  dsimp only
  iapply (Runs.bind (run9 m c ((above_OP c).mono (Nat.zero_le _)) _ _ _ (p0 (w1B m c)) (q0 (w2B m c)))) $$ [HO e1l e2l i1A i2A zA zB]
  · isplitr; · iexact HL
    isplitl [e1l e2l i1A i2A zA zB]
    · isplitl [e1l]; · iexact e1l
      isplitl [e2l]; · iexact e2l
      isplitl [i1A]; · iexact i1A
      isplitl [i2A]; · iexact i2A
      isplitl [zA] <;> iassumption
    iexact HO
  iintro ⟨HO, e1l, e2l, i1A, i2A, zA, zB⟩
  dsimp only
  iapply (Runs.bind (run10 c _ _ _ _ _ _ _ _ _ (p2 (w1B m c)) (q2 (w2B m c)))) $$ [i1A i2A]
  · isplitl [i1A] <;> iassumption
  iintro ⟨i1A, i2A⟩
  dsimp only
  iapply (Runs.bind (run11 m c ((above_OP c).mono (Nat.zero_le _)) _ _ _ (p1 (w1B m c)) (q1 (w2B m c)))) $$ [HO e1r e2r i1C i2C zC zD]
  · isplitr; · iexact HL
    isplitl [e1r e2r i1C i2C zC zD]
    · isplitl [e1r]; · iexact e1r
      isplitl [e2r]; · iexact e2r
      isplitl [i1C]; · iexact i1C
      isplitl [i2C]; · iexact i2C
      isplitl [zC] <;> iassumption
    iexact HO
  iintro ⟨HO, e1r, e2r, i1C, i2C, zC, zD⟩
  dsimp only
  iapply (Runs.bind (run12 c _ _ _ _ _ _ _ _ _ (p3 (w1B m c)) (q3 (w2B m c)))) $$ [i1C i2C]
  · isplitl [i1C] <;> iassumption
  iintro ⟨i1C, i2C⟩
  dsimp only
  iapply (Runs.bind (run13 m K c _ _ _ _ _ _ _ _ _ _ _ _ _ (by unfold sentB contribA; rfl))) $$ [HO Hpp Prv t5 t6]
  · isplitr; · iexact HR
    isplitl [HO]; · iexact HO
    isplitl [Hpp]; · iexact Hpp
    isplitl [Prv]; · iexact Prv
    isplitl [t5] <;> iassumption
  iintro ⟨HO, c5⟩
  dsimp only
  iapply (Runs.bind (run14 c _ _ _ _ _ _ _ _ _ _ (p2 (w1B m c)) (q2 (w2B m c)))) $$ [i1A i2A]
  · isplitl [i1A] <;> iassumption
  iintro ⟨i1A, i2A⟩
  dsimp only
  iapply (Runs.bind (run15 m c _ _ _ _ _ _ (p3 (w1B m c)) (p2 (w1B m c)) (q3 (w2B m c)))) $$ [i1C i2C e1l i1A zA]
  · isplitl [i1C i2C]
    · isplitl [i1C] <;> iassumption
    isplitl [e1l]; · iexact e1l
    isplitl [i1A] <;> iassumption
  iintro ⟨⟨i1C, i2C⟩, g1A⟩
  iapply (Runs.bind (run16 m c (above_zero 0) _ _ _ _ _ _ (q2 (w2B m c)))) $$ [HO g1A e2l i2A zB]
  · isplitr; · iexact HL
    isplitl [g1A]; · iexact g1A
    isplitl [e2l i2A zB]
    · isplitl [e2l]; · iexact e2l
      isplitl [i2A] <;> iassumption
    iexact HO
  iintro ⟨HO, e1l, e2l, i1A, i2A, zA, zB⟩
  dsimp only
  iapply (Runs.bind (run17 m c _ _ _ _ _ _ (p0 (w1B m c)) (p3 (w1B m c)) (q0 (w2B m c)))) $$ [i1A i2A e1r i1C zC]
  · isplitl [i1A i2A]
    · isplitl [i1A] <;> iassumption
    isplitl [e1r]; · iexact e1r
    isplitl [i1C] <;> iassumption
  iintro ⟨⟨i1A, i2A⟩, g1C⟩
  iapply (Runs.bind (run18 m c (above_zero 0) _ _ _ _ _ _ (q3 (w2B m c)))) $$ [HO g1C e2r i2C zD]
  · isplitr; · iexact HL
    isplitl [g1C]; · iexact g1C
    isplitl [e2r i2C zD]
    · isplitl [e2r]; · iexact e2r
      isplitl [i2C] <;> iassumption
    iexact HO
  iintro ⟨HO, e1r, e2r, i1C, i2C, zC, zD⟩
  dsimp only
  iapply (Runs.bind (run19 m K c _ _ _ _ _ _ _ _ _ (p1 (w1B m c)) (q1 (w2B m c)))) $$ [HO i1C i2C c5 c6 a5 a6]
  · isplitr; · iexact HR
    isplitr; · iexact HL
    isplitl [HO]; · iexact HO
    isplitl [i1C i2C]
    · isplitl [i1C] <;> iassumption
    isplitl [c5]; · iexact c5
    isplitl [c6]; · iexact c6
    isplitl [a5] <;> iassumption
  iintro ⟨HO, ⟨i1C, i2C⟩, y5, y6, Hpp, Hrv⟩
  icases Ho with ⟨%X, Ho⟩
  simp only [Prog.lift, Prog.bind_op, Prog.bind_ret, Prog.pure_eq_ret]
  iapply (load_whole c (defs₀ (F := F)) 𝒱₀) $$ Ho; iintro Ho
  iapply (store_o c) $$ Ho; iintro Ho
  simp only [run, wp_ret]; imodintro
  iapply Hk
  unfold done Φ₁ scratch weights wSems outB contribB
  rw [bigSep_fin7]
  isplitl [e1l e1r e2l e2r i1A i1C i2A i2C Hxa Hs0 Hs1 Hpp Hrv y0 y1 y2 y3 y4 y5 y6 zA zB zC zD]
  · isplitl [i1A i1C i2A i2C Hxa Hs0 Hs1 Hpp Hrv]
    · isplitl [i1A i1C]
      · iapply (w1_slots c).2
        isplitl [i1A]; · iexists _; iexact i1A
        iexists _; iexact i1C
      isplitl [i2A i2C]
      · iapply (w2_slots c).2
        isplitl [i2A]; · iexists _; iexact i2A
        iexists _; iexact i2C
      isplitl [Hxa]; · iexists _; iexact Hxa
      isplitl [Hs0 Hs1]
      · iapply (two_slots (F := F) c cc0_scratch3 (s' := S1024x4) (h₀ := fun _ => rfl) (h₁ := fun _ => rfl) (q₀ := squeezes_S1x1024x4_S1024x4) (q₁ := squeezes_S1x1024x4_S1024x4)
          (halves3 (n₁ := 1024) (n₂ := 4) rfl rfl inb_S2x1024x4_S1x1024x4_0_0_0 inb_S2x1024x4_S1x1024x4_1_0_0).1
          (halves3 (n₁ := 1024) (n₂ := 4) rfl rfl inb_S2x1024x4_S1x1024x4_0_0_0 inb_S2x1024x4_S1x1024x4_1_0_0).2).2
        isplitl [Hs0]; · iexists _; iexact Hs0
        iexists _; iexact Hs1
      isplitl [Hpp]; · iexists _; iexact Hpp
      iexists _; iexact Hrv
    isplitl [e1l e1r e2l e2r]
    · isplitl [e1l e1r]
      · iapply (held_halves c e1M (w1B m c)).2
        isplitl [e1l] <;> iassumption
      · iapply (held_halves c e2M (w2B m c)).2
        isplitl [e2l] <;> iassumption
    isplitl [y0 y1 y2 y3 y4 y5 y6]
    · isplitl [y0]; · iexact y0
      isplitl [y1]; · iexact y1
      isplitl [y2]; · iexact y2
      isplitl [y3]; · iexact y3
      isplitl [y4]; · iexact y4
      isplitl [y5] <;> iassumption
    isplitl [zA]; · iexact zA
    isplitl [zB]; · iexact zB
    isplitl [zC] <;> iassumption
  isplitl [HO]; · iexact HO
  isplitl [Hx]; · iexact Hx
  isplitl [Hrt]; · iexact Hrt
  iexact Ho

end Cert.MoeProof
end
-- ==== Proof.Launch.lean ====
/- The launch: the body as the pipeline asks for it, the cells funded and dealt, and the whole run. -/
module

public import proofs.«01_k».proof.Proof.Body
public import proofs.«01_k».proof.Proof.Gen.KernelIdeal.Points
public import Idealize.ShloMosaic.Lib.Pipeline.CollectiveSegs

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## The body's obligation -/

theorem owns_held (c : Dev nD) (b : Ref sig .tc) (X : b.ty.Contents (Elt F)) :
    (owns (Ix := Unit) (Name := ℕ) (U := UU) (Lvl := ℕ) (c : Thread nD τ) (Memref.whole b) fullShare X : sProp 𝕄) ⊣⊢ held c (Memref.whole b) fullShare X := by
  unfold owns
  simp only [Memref.view_whole, View.read_whole, View.set_whole]
  constructor
  · iintro ⟨%f, %hf, H⟩
    subst hf
    iapply (Entails.of_eq (held_whole c b fullShare f)); iexact H
  · iintro H
    iexists X
    isplitr; · ipureintro; rfl
    iapply (Entails.of_eq (held_whole c b fullShare X).symm); iexact H

theorem fetch_x (t : Fin cfg0.N) : (cfg0.win (0 : Fin 3)).fetch t = true := by rw [fin_N0 t]; rfl
theorem fetch_r (t : Fin cfg0.N) : (cfg0.win (1 : Fin 3)).fetch t = true := by rw [fin_N0 t]; rfl

theorem before_x (c : Dev nD) (d) : (dats m 0 c).before (0 : Fin 3) t0_0 d = xB m c := by
  unfold Dat.before; rw [if_pos (fetch_x t0_0)]; rfl
theorem before_r (c : Dev nD) (d) : (dats m 0 c).before (1 : Fin 3) t0_0 d = rB m c := by
  unfold Dat.before; rw [if_pos (fetch_r t0_0)]; rfl

theorem bigSep_W (Φ : Fin cfg0.W → sProp 𝕄) : bigSep Finset.univ Φ = iprop(Φ (0 : Fin 3) ∗ Φ (1 : Fin 3) ∗ Φ (2 : Fin 3)) := bigSep_W0 Φ

abbrev stg (c : Dev nD) (b : Ref sig .tc) (X : b.ty.Contents (Elt F)) : sProp 𝕄 :=
  owns (Ix := Unit) (Name := ℕ) (U := UU) (Lvl := ℕ) (c : Thread nD τ) (Memref.whole b) fullShare X

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ ∗ stg c cc0_stg0_0 (xB m c) ∗ stg c cc0_stg1_0 (rB m c) ∗ stg c cc0_stg2_0 (outB m c))

theorem body_obligation (c : Dev nD) : BodyObligation (dats (F := F) m 0 c) (defs₀ (F := F)) 𝒱₀ () Set.univ := fun t => by
  rw [fin_N0 t]
  rw [bigSep_W, bigSep_W]
  show bodyPre m c ⊢ run c (onBufs (cc0_body (F := F))) (fun _ => bodyPost m c)
  unfold bodyPre Φ₀ start
  iintro ⟨⟨⟨⟨%K, Hg⟩, Hw, Hc, #HL, He⟩, Hs⟩, Ho, ⟨%d0, Hx⟩, ⟨%d1, Hr⟩, ⟨%d2, Hout⟩⟩
  rw [before_x, before_r]
  unfold Dat.owesAt Pipeline.owesWithin
  icases Ho with ⟨%W, %hW, HO⟩
  rw [show (dats m 0 c).owed t0_0.castSucc = O₀ c from rfl]
  ihave Hx := (owns_held c cc0_stg0_0 _).1 $$ Hx
  ihave Hr := (owns_held c cc0_stg1_0 _).1 $$ Hr
  ihave Hout := (owns_held c cc0_stg2_0 _).1 $$ Hout
  iapply (run_body m K c (fun _ => bodyPost m c)) $$ [Hg Hw Hc He Hs HO Hx Hr Hout]
  · isplitl [Hg]; · iexact Hg
    isplitl [Hw]; · iexact Hw
    isplitl [Hc]; · iexact Hc
    isplitr; · iexact HL
    isplitl [He]; · iexact He
    isplitl [Hs]; · iexact Hs
    isplitl [HO]; · unfold ow; iexists W; iexact HO
    isplitl [Hx]; · iexact Hx
    isplitl [Hr]; · iexact Hr
    iexists _; iexact Hout
  unfold done ow
  iintro ⟨HΦ, ⟨%W', HO⟩, Hx, Hr, Hout⟩
  unfold bodyPost Dat.owesAt Pipeline.owesWithin
  rw [show (dats m 0 c).owed t0_0.succ = 0 from rfl]
  isplitl [HΦ]; · iexact HΦ
  isplitl [HO]
  · iexists W'
    isplitr; · ipureintro; exact fun _ _ => Or.inl trivial
    iexact HO
  isplitl [Hx]; · iapply (owns_held c cc0_stg0_0 _).2; iexact Hx
  isplitl [Hr]; · iapply (owns_held c cc0_stg1_0 _).2; iexact Hr
  iapply (owns_held c cc0_stg2_0 _).2; iexact Hout

/-! ## The cells at the launch -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := fun k k' h =>
  Option.some.inj ((place7_csem k).symm.trans ((congrArg place7 h).trans (place7_csem k')))

theorem kcell_eq {a b : Dev nD} {k j : Fin 7} : kcell (a, k) = kcell (b, j) ↔ a = b ∧ k = j :=
  ⟨fun h => ⟨congrArg (fun g : GSem nD τ sig => g.1.1) h, csem_injective (congrArg Prod.snd h)⟩, fun h => by rw [h.1, h.2]⟩

theorem kcell_injective : Function.Injective (kcell : Dev nD × Fin 7 → GSem nD τ sig) := by
  rintro ⟨c, k⟩ ⟨c', k'⟩ h
  exact Prod.ext (kcell_eq.mp h).1 (kcell_eq.mp h).2

def allCells : Finset (GSem nD τ sig) := Finset.univ.map ⟨kcell, kcell_injective⟩
def allToks : Finset (GSem nD τ sig × ℕ × Unit) := allCells.map ⟨fun g => (g, 0, ()), fun _ _ h => congrArg Prod.fst h⟩

def u₀ : UU :=
  (initOf (Pipeline.cells cfgs cellOf_inj) (Pipeline.launchToks cfgs cellOf_inj), (initOf allCells allToks, (1 : Counters)))

/-- The tokens of a device's own cells. -/
def toks (c : Dev nD) : sProp 𝕄 := bigSep Finset.univ fun k : Fin 7 => dutyTok ER (kcell (c, k)) 0 ()

/-- What the launch deals a device. -/
def G (c : Dev nD) : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ toks c)

/-- What the devices make of it together. -/
def G' (c : Dev nD) : sProp 𝕄 := iprop((∃ K, ghost m K c) ∗ wSems (F := F) c)

theorem own_cells : (BI.own (embR (initOf allCells allToks, (1 : Counters))) : sProp 𝕄) ⊢ BI.own (ER (initOf allCells allToks)) :=
  (own_pair_emb embR (initOf allCells allToks) (1 : Counters)).trans sep_elim_left

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map]; exact hX fun g => dutyTok ER g 0 ()
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0
        ∗ wSems (F := F) c) := by
  rw [Pipeline.ownSems0_eq_of_list c osem [0, 1, 2, 3, 4, 5, 6, 7, 8, 9] (by decide) (by decide)]; rfl

theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- A device's semaphores: the protocol's seven and the four of the weights' copies. -/
theorem sems0_iff (c : Dev nD) :
    iprop(unscopedSems0 c ∗ Pipeline.ownSems0 (Ix := Unit) (Name := ℕ) (U := UU) (Lvl := ℕ) (Val := Elt F) (τ := τ) osem c)
      ⊣⊢ iprop((bigSep Finset.univ fun k : Fin 7 => semVal (kcell (c, k)) 0) ∗ wSems (F := F) c : sProp 𝕄) := by
  rw [ownSems0_eq, unscopedSems0_eq, bigSep_fin7]
  constructor
  · iintro ⟨H0, H1, H2, H3, H4, H5, H6, Hw⟩
    iframe
  · iintro ⟨⟨H0, H1, H2, H3, H4, H5, H6⟩, Hw⟩
    iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ wSems (F := F) c) := by
  unfold G
  iintro ⟨Hos, Hus, Hst, Hat, Htok⟩
  ihave Hv := (sems0_iff (F := F) c).1 $$ [Hos Hus]
  · isplitl [Hus] <;> iassumption
  icases Hv with ⟨Hv, Hw⟩
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens dealt to who pays them: those of the barrier and of the arrivals go to the peer. -/
theorem toks_dealt : (bigSep Finset.univ fun c : Dev nD => (toks (F := F) c : sProp 𝕄)) ⊢ bigSep Finset.univ fun c : Dev nD => payToks (F := F) c := by
  have hp (k : Fin 7) : (bigSep Finset.univ fun c : Dev nD => (dutyTok ER (kcell (c, k)) 0 () : sProp 𝕄))
      = bigSep Finset.univ fun c : Dev nD => dutyTok ER (kcell (tgt c k, k)) 0 () := by
    have hpair := bigSep_univ_equiv pairing (fun c : Dev nD => (dutyTok ER (kcell (c, k)) 0 () : sProp 𝕄))
    fin_cases k <;> first | rfl | exact hpair
  unfold toks payToks
  refine Entails.of_eq ?_
  simp only [bigSep_fin7, bigSep_sep', hp]

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_dealt (K : Dev nD × Fin 7 → ℕ) (c : Dev nD) : iprop(records m K ∗ spots (F := F) c ∗ payToks (F := F) c ∗ wSems (F := F) c) ⊢ G' m c := by
  unfold G' ghost
  iintro ⟨#HR, Hs, Ht, Hw⟩
  isplitr [Hw]
  · iexists K
    isplitr; · iexact HR
    isplitl [Hs] <;> iassumption
  · iexact Hw

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c ∗ wSems (F := F) c) : sProp 𝕄)
      ⊢ bigSep Finset.univ (G' m) := by
  rw [bigSep_sep', bigSep_sep', bigSep_sep', ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hw⟩
  ihave HK := (BI.bigSep_exists_pi Finset.univ (fun (ck : Dev nD × Fin 7) (κ : ℕ) => (cellInv ER (Rd m) κ (kcell ck) : sProp 𝕄))) $$ HI
  icases HK with ⟨%K, #HI⟩
  ihave Htk := (toks_dealt (F := F)) $$ Htok
  iapply (bigSep_with (R := records m K) fun c _ => ghost_dealt m K c)
  isplitr
  · unfold records; isplitl; · iexact HI
    iexact HR
  · rw [bigSep_sep', bigSep_sep']
    isplitl [Hat]; · unfold spots; iexact Hat
    isplitl [Htk]; · iexact Htk
    iexact Hw

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- What a device owes its peer's cell of index `k`. -/
def due : Fin 7 → ℕ := ![1, 0, NR, 0, NX, 0, NP]

theorem owed_at (d c : Dev nD) (k : Fin 7) : O₀ d (kcell (c, k)) () = if d = peer c then due k else 0 := by
  have e : (c = peer d) = (d = peer c) := propext ⟨fun h => by rw [h, peer_peer], fun h => by rw [h, peer_peer]⟩
  unfold O₀ OR OX OP due
  simp only [Pi.add_apply, Finsupp.add_apply, tallyAt_apply, kcell_eq, e]
  by_cases h : d = peer c
  · simp only [h, true_and, and_true, if_true]
    fin_cases k <;> rfl
  · simp only [h, false_and, if_false]

theorem launch_at (c : Dev nD) (k : Fin 7) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same, Finset.sum_congr rfl fun d _ => owed_at d c k, Finset.sum_ite_eq' Finset.univ (peer c) fun _ => due k,
    if_pos (Finset.mem_univ _)]

theorem launch_creds (c : Dev nD) : (Pipeline.launchCred O₀ c : sProp 𝕄) ⊢ creds (F := F) c := by
  unfold Pipeline.launchCred
  refine (BI.bigSep_subset (t := (Finset.univ : Finset (Fin 7)).map ⟨csem, csem_injective⟩) (Finset.subset_univ _)).trans ?_
  rw [bigSep_map]
  refine (Entails.of_eq (bigSep_congr (s := Finset.univ) fun k _ => (congrArg cred (launch_at c k) : _ = (cred (tallyAt (kcell (c, k)) () (due k)) : sProp 𝕄)))).trans ?_
  rw [bigSep_fin7]
  unfold creds
  iintro ⟨H0, -, H2, -, H4, -, H6⟩
  isplitl [H0]; · iexact H0
  isplitl [H2]; · iexact H2
  isplitl [H4]; · iexact H4
  iexact H6

/-! ## The launch's sides -/

/-- The experts' weights, whole. -/
theorem weights_eq (c : Dev nD) : (weights m c : sProp 𝕄)
    = iprop(((c : Thread nD τ).loc main_arg2 ↦{fullShare} m ((c : Thread nD τ).loc main_arg2)) ∗ ((c : Thread nD τ).loc main_arg3 ↦{fullShare} m ((c : Thread nD τ).loc main_arg3))) := by
  rw [held_whole, held_whole]; rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq, ← weights_eq]
  unfold start G'
  iintro ⟨He, Hlev, Hcr, -, HG, Hw⟩
  ihave Hc := (launch_creds (F := F) c) $$ Hcr
  imodintro
  isplitl
  · isplitl [HG]; · iexact HG
    isplitl [Hw]; · iexact Hw
    isplitl [Hc]; · iexact Hc
    isplitl [Hlev] <;> iassumption
  · iempintro

theorem held_any (c : Dev nD) (b : Ref sig .tc) :
    (iprop(∃ f : Buf (Elt F) ((c : Thread nD τ).loc b), (c : Thread nD τ).loc b ↦{fullShare} f) : sProp 𝕄) = iprop(∃ X, held (F := F) c (Memref.whole b) fullShare X) :=
  congrArg _ (funext fun f => held_whole c b fullShare f)

theorem scratch_eq (c : Dev nD) : (Pipeline.scopedRest (Ix := Unit) (Name := ℕ) (U := UU) (Lvl := ℕ) (Val := Elt F) cfg0.spec c : sProp 𝕄) = scratch (F := F) c := by
  rw [scopedRest0_eq]; simp only [held_any]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop((unscopedSems0 c ∗ weights m c) ∗ Pipeline.ownSems0 osem c ∗ Pipeline.scopedRest cfg0.spec c) := by
  rw [show (dats m 0 c).Φ (Fin.last cfg0.N) = Φ₁ m c from rfl, scratch_eq]
  unfold Φ₁
  iintro ⟨Hr, He, Hs, Hw⟩
  ihave H := (sems0_iff (F := F) c).2 $$ [Hs Hw]
  · isplitl [Hs] <;> iassumption
  icases H with ⟨Hu, Ho⟩
  isplitl [Hu He]
  · isplitl [Hu] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait c _ ((dats m 0 c).owed t) (n := 0) (by fin_cases w <;> fin_cases s <;> decide) (by
      rcases t with ⟨_ | _, ht⟩
      · exact above_O₀ c
      · exact above_zero 0)

/-- The weights' buffers, read in a final memory. -/
theorem weights_read (c : Dev nD) (s' : Phys nD τ sig (Elt F)) :
    iprop(weights m c ∗ SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  have h := pointsTo_read_all (Ix := Unit) (Name := ℕ) (U := UU) (Lvl := ℕ) (Val := Elt F) (Finset.univ : Finset (Fin 2)) (fun i => (c : Thread nD τ).loc (![main_arg2, main_arg3] i))
    (fun i => m ((c : Thread nD τ).loc (![main_arg2, main_arg3] i))) s'
  rw [bigSep_univ_eq_bigSepL [0, 1] (by decide) (by decide)] at h
  rw [weights_eq]
  refine (show _ ⊢ _ from h).trans ?_
  iintro ⟨%h, HS⟩
  isplitr
  · ipureintro; exact ⟨h 0 (Finset.mem_univ _), h 1 (Finset.mem_univ _)⟩
  · iexact HS

/-! ## The run -/

def finalA (c : Dev nD) (w : Fin cfg0.W) : Buf (Elt F) ((cfg0.win w).arr.view.loc (c : Thread nD τ)) := (dats m 0 c).arrAt w cfg0.N

/-- What every final memory is. -/
def Ends (r : PUnit × MemSt nD τ sig (Elt F)) : Prop :=
  (∀ c : Dev nD, (∀ w : Fin cfg0.W, r.2.mem ((cfg0.win w).arr.view.loc (c : Thread nD τ)) = finalA m c w)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

theorem run_ends : θ_run defs (onTc (τ := τ) (main (F := F))) (⟨m, fun _ => 0, ρ⟩ : MemSt nD τ sig (Elt F)) (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := own_cells $$ HX
      imod (fund_cells m) $$ HX with HG
      imodintro
      isplitl [HP] <;> iassumption)
    (hglob := glob m)
    (hA := fun _ _ => rfl) (hpf := fun _ k => k.elim0)
    (X := start m) (Y := fun c => iprop(unscopedSems0 c ∗ weights m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      iintro ⟨⟨Hu, He⟩, -, HSI⟩
      ihave H := (weights_read m c s') $$ [He HSI]
      · isplitl [He] <;> iassumption
      icases H with ⟨%he, HSI⟩
      imod (Pipeline.unscopedSems0_read (X := unscopedSems0 c) (c := c) fupd_intro s') $$ [Hu HSI] with H
      · isplitl [Hu] <;> iassumption
      icases H with ⟨%hs, HSI⟩
      imodintro
      isplitr; · ipureintro; exact ⟨hs, he⟩
      iexact HSI)
    (hQ := fun _ h hs => ⟨fun c => ⟨(h c).1, (h c).2.2.2⟩, sem_eq_zero hs fun c => (h c).2.2.1⟩)

/-! ## The arrays at the end -/

theorem zero_x : (fun a => win0_0.index t0_0 a * main_arg0.ty.shape.size a) = fun _ => 0 := funext fun a => by fin_cases a <;> decide
theorem zero_r : (fun a => win0_1.index t0_0 a * main_arg1.ty.shape.size a) = fun _ => 0 := funext fun a => by fin_cases a <;> decide
theorem zero_o : (fun a => win0_2.index t0_0 a * main_v1.ty.shape.size a) = fun _ => 0 := funext fun a => by fin_cases a <;> decide

/-- The tokens' one block is their array, and so the router's. -/
theorem xB_eq (c : Dev nD) : xB m c = m ((c : Thread nD τ).loc main_arg0) :=
  Memref.read_access_unit_zero (Elt F) main_arg0 zero_x (fun a => by rw [congrFun zero_x a]; simp) (m ((c : Thread nD τ).loc main_arg0))
theorem rB_eq (c : Dev nD) : rB m c = m ((c : Thread nD τ).loc main_arg1) :=
  Memref.read_access_unit_zero (Elt F) main_arg1 zero_r (fun a => by rw [congrFun zero_r a]; simp) (m ((c : Thread nD τ).loc main_arg1))

theorem flushed_eq (c : Dev nD) (t : Fin cfg0.N) :
    (dats m 0 c).flushed 2 t = ((cfg0.win 2).blk t).view.read (Elt F) (outB m c : Buf (Elt F) ((c : Thread nD τ).loc main_v1)) := by
  rw [fin_N0 t]
  exact (Memref.read_access_unit_zero (Elt F) main_v1 zero_o (fun a => by rw [congrFun zero_o a]; simp) (outB m c)).symm

/-- The result array ends at the kernel's block. -/
theorem final_o (c : Dev nD) : finalA m c 2 = outB m c :=
  (dats m 0 c).arrAt_eq_of_cover 2 (outB m c : Buf (Elt F) ((c : Thread nD τ).loc main_v1)) (fun t _ => flushed_eq m c t) fun i =>
    ⟨t0_0, flush0_2 t0_0, by
      show i ∈ ((View.whole main_v1).slice (win0_2.rect t0_0)).set
      rw [View.set_slice_whole]
      exact View.mem_set_unit_zero zero_o (fun a => by rw [congrFun zero_o a]; simp) i⟩

/-- The whole run: each device's result at the kernel's block, its arguments as they were, every counter at zero. -/
theorem run_main : θ_run defs (onTc (τ := τ) (main (F := F))) (⟨m, fun _ => 0, ρ⟩ : MemSt nD τ sig (Elt F)) fun r =>
    (∀ c : Dev nD, r.2.mem ((c : Thread nD τ).loc main_v1) = outB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun _ h => ⟨fun c => ⟨((h.1 c).1 2).trans (final_o m c), ((h.1 c).1 0).trans ((dats m 0 c).arrAt_in 0 rfl _),
    ((h.1 c).1 1).trans ((dats m 0 c).arrAt_in 1 rfl _), (h.1 c).2⟩, h.2⟩) (run_ends m ρ)

end Cert.MoeProof
end
-- ==== Proof.Frames.lean ====
/- The three programs' frames. -/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 16384

noncomputable section

namespace Cert.MoeProof

open Idealize.ShloMosaic Idealize.SL.Sem

/-- Over float words a named constant is the float of its word. -/
local instance words_named : Named Bits := ⟨fun _ _ {φ} w => Scalar.ofBits φ w⟩

/-- The two programs are then one text: their body tables agree, -/
theorem bodies_same : (Cert.Kernel.defs₀ (F := Bits)) = Cert.KernelIdeal.defs₀ := by
  unfold Cert.Kernel.defs₀ Cert.KernelIdeal.defs₀
  refine congrArg Defs.onTc ?_
  funext l
  match l with
  | ⟨0, _⟩ => rfl

/-- and so their tables. -/
theorem tables_same : (Cert.Kernel.defs (F := Bits)) = Cert.KernelIdeal.defs :=
  congrArg (Pipeline.defs Cert.KernelIdeal.pcfgs) bodies_same

theorem frame_kernel : Cert.quiescent_Kernel := by
  intro m ρ _
  rw [tables_same]
  exact (θ_run Cert.KernelIdeal.defs _ _).mono (fun _ h => ⟨fun c => (h.1 c).2, h.2⟩) (run_main (F := Bits) m ρ)

theorem frame_kernelIdeal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MoeProof
end
-- ==== Proof.Top.lean ====
/- The two largest of eight gates.

`Two g a b` says that `a` and `b` are the places of the two largest entries of `g`, equal entries going to the lower
place. A stable sort of the negated entries puts those two places first; the largest entry and the lowest place that
holds it, taken twice with the first place overwritten, give them too, so long as the second entry lies above the value
written over the first. -/
module

public import Idealize.ShloMosaic.Lib.Pointwise
public import Idealize.ShloMosaic.Lib.SortFacts

@[expose] public section

set_option maxRecDepth 16384

noncomputable section

namespace Cert.MoeProof

open Idealize.ShloMosaic

/-- `a` is the lowest place of the largest entry. -/
def Largest (p : Fin 8 → EReal) (a : Fin 8) : Prop := ∀ j, p j ≤ p a ∧ (p j = p a → a ≤ j)

/-- `a` and `b` are the places of the two largest entries, equal entries going to the lower place. -/
structure Two (g : Fin 8 → EReal) (a b : Fin 8) : Prop where
  ne : b ≠ a
  first : Largest g a
  second : ∀ j, j ≠ a → g j ≤ g b ∧ (g j = g b → b ≤ j)

theorem largest_unique {p : Fin 8 → EReal} {a b : Fin 8} (ha : Largest p a) (hb : Largest p b) : a = b :=
  le_antisymm ((ha b).2 (le_antisymm (ha b).1 (hb a).1)) ((hb a).2 (le_antisymm (hb a).1 (ha b).1))

theorem exists_largest (p : Fin 8 → EReal) : ∃ a, Largest p a := by
  obtain ⟨m, -, hm⟩ := Finset.exists_max_image Finset.univ p ⟨0, Finset.mem_univ _⟩
  have hne : (Finset.univ.filter fun j => p j = p m).Nonempty := ⟨m, by simp⟩
  refine ⟨(Finset.univ.filter fun j => p j = p m).min' hne, fun j => ?_⟩
  have ha := (Finset.mem_filter.1 (Finset.min'_mem _ hne)).2
  rw [ha]
  exact ⟨hm j (Finset.mem_univ _), fun h => Finset.min'_le _ _ (by simpa using h)⟩

/-- The largest entry, as a running maximum finds it. -/
theorem fold_max_eq {p : Fin 8 → EReal} {a : Fin 8} (ha : Largest p a) : Finset.univ.fold max ⊥ p = p a :=
  le_antisymm ((Finset.fold_max_le _).2 ⟨bot_le, fun j _ => (ha j).1⟩) ((Finset.le_fold_max _).2 (Or.inr ⟨a, Finset.mem_univ _, le_rfl⟩))

/-- The lower of two words, read as signed numbers. -/
theorem toInt_min (x y : BitVec 32) : (IntOp.minsi x y).toInt = min x.toInt y.toInt := by
  unfold IntOp.minsi
  by_cases h : x.slt y = true
  · rw [if_pos h, min_eq_left (BitVec.slt_iff_toInt_lt.1 h).le]
  · rw [if_neg h, min_eq_right (not_lt.1 fun h' => h (BitVec.slt_iff_toInt_lt.2 h'))]

theorem toInt_place (j : Nat) (h : j ≤ 8) : (BitVec.ofNat 32 j).toInt = j := by
  interval_cases j <;> rfl

/-- The lowest place that holds the largest entry, as a running minimum finds it. -/
theorem fold_min_eq {p : Fin 8 → EReal} {a : Fin 8} (ha : Largest p a) :
    Finset.univ.fold IntOp.minsi 2147483647#32 (fun j => if p j = p a then BitVec.ofNat 32 j.val else 8#32)
      = BitVec.ofNat 32 a.val := by
  refine BitVec.eq_of_toInt_eq ?_
  rw [← Finset.fold_hom (m := BitVec.toInt) toInt_min, toInt_place _ a.isLt.le]
  refine le_antisymm ((Finset.fold_min_le _).2 (Or.inr ⟨a, Finset.mem_univ _, ?_⟩)) ((Finset.le_fold_min _).2 ⟨?_, fun j _ => ?_⟩)
  · rw [if_pos rfl, toInt_place _ a.isLt.le]
  · have h : (2147483647#32).toInt = 2147483647 := by decide
    rw [h]; omega
  · split
    · next h =>
      rw [toInt_place _ j.isLt.le]
      exact_mod_cast (ha j).2 h
    · have h : (8#32).toInt = 8 := by decide
      rw [h]; omega

/-- With the first place overwritten by `c`, the largest is the first or the second; above `c` it is the second. -/
theorem largest_masked {g : Fin 8 → EReal} {a b k : Fin 8} {c : EReal} (h : Two g a b)
    (hk : Largest (fun j => if j = a then c else g j) k) : (k = a ∨ k = b) ∧ (c < g b → k = b) := by
  have hb := hk b
  simp only [if_neg h.ne] at hb
  by_cases hka : k = a
  · subst hka
    simp only [if_true] at hb
    exact ⟨Or.inl rfl, fun hc => absurd hb.1 (not_le.2 hc)⟩
  · simp only [if_neg hka] at hb
    have e : k = b := le_antisymm (hb.2 (le_antisymm hb.1 (h.second k hka).1)) ((h.second k hka).2 (le_antisymm (h.second k hka).1 hb.1))
    exact ⟨Or.inr e, fun _ => e⟩

/-! ## The stable sort -/

/-- Ahead in the sort: a smaller key, or an equal one at a lower place. -/
def Ahead {n : Nat} (key : Fin n → EReal) (i j : Fin n) : Prop := key i < key j ∨ (key i = key j ∧ i < j)

theorem ahead_insert {n : Nat} (key : Fin n → EReal) (a : Fin n) (l : List (Fin n)) (ha : ∀ b ∈ l, a < b)
    (hl : l.Pairwise (Ahead key)) : (insertBefore (fun x y => decide (key x < key y)) a l).Pairwise (Ahead key) := by
  induction l with
  | nil => exact List.pairwise_singleton _ _
  | cons b l ih =>
    obtain ⟨hb, hl'⟩ := List.pairwise_cons.1 hl
    unfold insertBefore
    by_cases hlt : key b < key a
    · rw [if_pos (by simpa using hlt)]
      refine List.pairwise_cons.2 ⟨fun c hc => ?_, ih (fun c hc => ha c (List.mem_cons_of_mem _ hc)) hl'⟩
      rcases List.mem_cons.1 ((perm_insertBefore _ a l).mem_iff.1 hc) with rfl | hc
      · exact Or.inl hlt
      · exact hb c hc
    · rw [if_neg (by simpa using hlt)]
      have hab : Ahead key a b := (lt_or_eq_of_le (not_lt.1 hlt)).imp id fun e => ⟨e, ha b List.mem_cons_self⟩
      refine List.pairwise_cons.2 ⟨fun c hc => ?_, hl⟩
      rcases List.mem_cons.1 hc with rfl | hc
      · exact hab
      · have hac := ha c (List.mem_cons_of_mem _ hc)
        rcases hb c hc with h | ⟨h, -⟩
        · exact Or.inl (lt_of_le_of_lt (not_lt.1 hlt) h)
        · exact (lt_or_eq_of_le (not_lt.1 hlt)).imp (fun h' => h ▸ h') fun e => ⟨e.trans h, hac⟩

theorem ahead_sort {n : Nat} (key : Fin n → EReal) (l : List (Fin n)) (hl : l.Pairwise (· < ·)) :
    (stableSort (fun x y => decide (key x < key y)) l).Pairwise (Ahead key) := by
  induction l with
  | nil => exact List.Pairwise.nil
  | cons a l ih =>
    obtain ⟨ha, hl'⟩ := List.pairwise_cons.1 hl
    unfold stableSort
    exact ahead_insert key a _ (fun b hb => ha b ((perm_stableSort _ l).mem_iff.1 hb)) (ih hl')

theorem ahead_sortedFrom {n : Nat} (key : Fin n → EReal) {i j : Fin n} (h : i < j) :
    Ahead key (sortedFrom (fun x y => decide (key x < key y)) i) (sortedFrom (fun x y => decide (key x < key y)) j) :=
  List.pairwise_iff_get.1 (ahead_sort key (List.finRange n) (List.pairwise_lt_finRange n)) _ _ h

/-- The first two places of the stable sort of the negated entries are those of the two largest. -/
theorem two_sortedFrom (g : Fin 8 → EReal) :
    Two g (sortedFrom (fun x y => decide (-g x < -g y)) 0) (sortedFrom (fun x y => decide (-g x < -g y)) 1) := by
  have hah : ∀ i j : Fin 8, Ahead (fun j => -g j) i j → g j ≤ g i ∧ (g j = g i → i ≤ j) := fun i j h => by
    rcases h with h | ⟨h, hij⟩
    · have h' := EReal.neg_lt_neg_iff.1 h
      exact ⟨h'.le, fun e => absurd e h'.ne⟩
    · exact ⟨(neg_injective h).ge, fun _ => hij.le⟩
  refine ⟨fun h => absurd (sortedFrom_injective _ h) (by decide), fun j => ?_, fun j hj => ?_⟩
  · obtain ⟨i, rfl⟩ := sortedFrom_surjective (fun x y => decide (-g x < -g y)) j
    rcases (Fin.zero_le i).eq_or_lt with rfl | hi
    · exact ⟨le_rfl, fun _ => le_rfl⟩
    · exact hah _ _ (ahead_sortedFrom (fun j => -g j) hi)
  · obtain ⟨i, rfl⟩ := sortedFrom_surjective (fun x y => decide (-g x < -g y)) j
    have h0 : i ≠ 0 := fun h => hj (by rw [h])
    by_cases h1 : i = 1
    · subst h1; exact ⟨le_rfl, fun _ => le_rfl⟩
    · exact hah _ _ (ahead_sortedFrom (fun j => -g j) (by omega))

/-- Two small words are equal when their numbers are. -/
theorem cmp_words {i j : ℕ} (hi : i < 2 ^ 32) (hj : j < 2 ^ 32) :
    IntOp.cmpi .eq (BitVec.ofNat 32 i) (BitVec.ofNat 32 j) = BitVec.ofBool (decide (i = j)) := by
  unfold IntOp.cmpi
  congr 1
  by_cases h : i = j
  · subst h; simp
  · have hne : BitVec.ofNat 32 i ≠ BitVec.ofNat 32 j := fun e => h (by
      have := congrArg BitVec.toNat e
      rwa [BitVec.toNat_ofNat, BitVec.toNat_ofNat, Nat.mod_eq_of_lt hi, Nat.mod_eq_of_lt hj] at this)
    simp [h, hne]

theorem pick_ofBool {α : Type} (c : Bool) (x y : α) : Scalar.select (BitVec.ofBool c) x y = if c = true then x else y := by
  cases c <;> rfl

/-- Two places as words are equal when they are. -/
theorem cmp_places (i j : Fin 8) : IntOp.cmpi .eq (BitVec.ofNat 32 i.val) (BitVec.ofNat 32 j.val) = BitVec.ofBool (decide (i = j)) := by
  rw [cmp_words (by omega) (by omega)]
  simp only [Fin.ext_iff]

theorem toInt_small {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- A small number kept as a real comes back as its word. -/
theorem fptosi_nat {n : ℕ} (h : n < 513) : Ideal.fptosi 32 (n : EReal) = BitVec.ofNat 32 n := by
  have e : (n : EReal) = ((n : ℝ) : EReal) := by norm_cast
  rw [e, Ideal.fptosi, Ideal.toIntClamped_coe, if_pos (Nat.cast_nonneg n), Int.floor_natCast, min_eq_right (by norm_num; omega),
    max_eq_right (by norm_num)]
  rfl

end Cert.MoeProof
-- ==== Proof.Gates.lean ====
/- The routing the body computes, row by row.

A row's gates are its products with the eight columns of the router. The body's first place is the lowest place of the
largest gate; its second place is the same of the gates with the first one overwritten by minus infinity. Its two weights are the softmax
of the two gates, written with the difference of the two. -/
module

public import proofs.«01_k».proof.Proof.Gen.KernelIdeal.Skeleton
public import proofs.«01_k».proof.Proof.Top

@[expose] public section

set_option maxRecDepth 16384

noncomputable section

namespace Cert.MoeProof

open Cert.KernelIdeal Cert.KernelIdeal.Gen
open Idealize.ShloMosaic

/-- A row's gates. -/
def gate (xr : Fin 1024 → EReal) (r : Fin 1024 → Fin 8 → EReal) (j : Fin 8) : EReal := ∑ k, xr k * r k j

/-- The two weights of a pair of gates. -/
def share1 (u v : EReal) : EReal := Ideal.div 1 (1 + Ideal.exp (v - u))
def share2 (u v : EReal) : EReal := Ideal.div (Ideal.exp (v - u)) (1 + Ideal.exp (v - u))

theorem ofBits_bot : Ideal.ofBits .f32 4286578688#32 = ⊥ := by simp [Ideal.ofBits, Ideal.ieee]

variable (r : FVec Ideal S1024x8 .f32) (x : FVec Ideal S512x1024 .f32) (t : Fin 512)

/-- The gates of row `t`. -/
abbrev gateAt : Fin 8 → EReal := gate (fun k => x (ix2 t k)) (fun k j => r (ix2 k j))

theorem gate_word (j : Fin 8) : k0_pay14 r x (ix2 t j) = gateAt r x t j := by
  pointwise [k0_pay14]
  rfl

variable {r x t} {a b : Fin 8} (h : Two (gateAt r x t) a b)
include h

theorem max1_word : k0_pay15 r x (ix2 t 0) = gateAt r x t a := by
  pointwise [k0_pay15, gate_word, ofBits_bot]
  exact fold_max_eq h.first

theorem place1_word : k0_pay16 r x (ix2 t 0) = BitVec.ofNat 32 a.val := by
  pointwise [k0_pay16, gate_word, max1_word h]
  exact fold_min_eq h.first

theorem masked_word (j : Fin 8) : k0_pay17 r x (ix2 t j) = if j = a then ⊥ else gateAt r x t j := by
  pointwise [k0_pay17, gate_word, place1_word h]
  rw [cmp_places, pick_ofBool]
  simp only [decide_eq_true_eq]
  rfl

theorem place2_word : ∃ k : Fin 8, k0_pay19 r x (ix2 t 0) = BitVec.ofNat 32 k.val ∧ (k = a ∨ k = b)
    ∧ (⊥ < gateAt r x t b → k = b ∧ k0_pay18 r x (ix2 t 0) = gateAt r x t b) := by
  obtain ⟨k, hk⟩ := exists_largest fun j => if j = a then ⊥ else gateAt r x t j
  have hm : k0_pay18 r x (ix2 t 0) = if k = a then ⊥ else gateAt r x t k := by
    pointwise [k0_pay18, masked_word h, ofBits_bot]
    exact fold_max_eq hk
  obtain ⟨h1, h2⟩ := largest_masked h hk
  refine ⟨k, ?_, h1, fun hl => ⟨h2 hl, ?_⟩⟩
  · pointwise [k0_pay19, masked_word h, hm]
    exact fold_min_eq hk
  · rw [hm, h2 hl, if_neg h.ne]

theorem shares_word (hl : ⊥ < gateAt r x t b) : k0_pay21 r x (ix2 t 0) = share1 (gateAt r x t a) (gateAt r x t b)
    ∧ k0_pay22 r x (ix2 t 0) = share2 (gateAt r x t a) (gateAt r x t b) := by
  obtain ⟨k, -, -, hk⟩ := place2_word h
  have e : k0_pay20 r x (ix2 t 0) = Ideal.exp (gateAt r x t b - gateAt r x t a) := by
    pointwise [k0_pay20, max1_word h, (hk hl).2]
  constructor
  · pointwise [k0_pay21, e]
    rfl
  · pointwise [k0_pay22, e]
    rfl

end Cert.MoeProof
-- ==== Proof.RefArrays.lean ====
/- The reference as a short chain of arrays.

The gates; the places of the two largest of them, by a sort of the negated gates; those two gates, taken along the
places; their softmax; each expert's two layers on all tokens; and, expert by expert, the two masked additions. -/
module

public import proofs.«01_k».proof.Proof.Gen.ReferenceIdeal.Run
public import proofs.«01_k».proof.Proof.Gates

@[expose] public section

set_option maxRecDepth 16384

noncomputable section

namespace Cert.MoeProof.Ref

open Cert.ReferenceIdeal Cert.ReferenceIdeal.Gen Cert.ReferenceIdeal.Value
open Idealize.ShloMosaic

section Arrays
variable {F : FTy → Type} [FloatOps F]

/-- All gates. -/
def gates (X : FVec F S1024x1024 .f32) (R : FVec F S1024x8 .f32) : FVec F S1024x8 .f32 :=
  Host.dotGeneral dot_S1024x1024_S1024x8_S1024x8_1_0_0_1_n_n none X R

/-- The places of the two largest gates. -/
def places (g : FVec F S1024x8 .f32) : IVec S1024x2 32 :=
  extractStridedSlice S1024x2 ![0, 0] (Host.sort2 S1024x8 1 comparator_f32_i32_d1 (Host.negf g) (iotaInDim S1024x8 32 1)).2
    slices_S1024x8_S1024x2_0_0

/-- The places with a negative one counted from the end, as a take along an axis reads them. -/
def wrapped (i : IVec S1024x2 32) : IVec S1024x2x1 32 :=
  shapeCast S1024x2x1 (select (cmpi .slt i (broadcastInDim S1024x2 ![] bcast_S_S1024x2 (constantI S_ 32 0#32)))
    (addi i (broadcastInDim S1024x2 ![] bcast_S_S1024x2 (constantI S_ 32 8#32))) i) shapeCasts_S1024x2_S1024x2x1

/-- One where the place lies within the eight gates. -/
def within (j : IVec S1024x2x1 32) : IVec S1024x2 1 :=
  Host.reduce IntOp.andi (andi (cmpi .sge j (broadcastInDim S1024x2x1 ![] bcast_S_S1024x2x1 (constantI S_ 32 0#32)))
    (cmpi .sle j (broadcastInDim S1024x2x1 ![0, 1, 2] bcast_S1x1x1_S1024x2x1_0_1_2
      (broadcastInDim S1x1x1 ![2] bcast_S1_S1x1x1_2 (constantI S1 32 7#32))))) (constantI S_ 1 1#1) reducesTo_S1024x2x1_S1024x2_d2 h_S_

/-- The two largest gates. -/
def largest (g : FVec F S1024x8 .f32) (i : IVec S1024x2 32) : FVec F S1024x2 .f32 :=
  select (within (wrapped i)) (Host.gather gather_S1024x8_S1024x2x1_S1024x2_n_1_0_0_1_2_11 g (wrapped i))
    (broadcastInDim S1024x2 ![] bcast_S_S1024x2 (constant S_ .f32 0x7FC00000#32))

/-- The exponentials of two gates less the larger one. -/
def exps (v : FVec F S1024x2 .f32) : FVec F S1024x2 .f32 :=
  Host.exp (subf v (broadcastInDim S1024x2 ![0, 1] bcast_S1024x1_S1024x2_0_1 (broadcastInDim S1024x1 ![0] bcast_S1024_S1024x1_0
    (Host.reduce FloatOps.maximumf v (constant S_ .f32 0xFF800000#32) reducesTo_S1024x2_S1024_d1 h_S_))))

/-- The weights: the exponentials over their sum. -/
def weights (x : FVec F S1024x2 .f32) : FVec F S1024x2 .f32 :=
  Host.divf x (broadcastInDim S1024x2 ![0, 1] bcast_S1024x1_S1024x2_0_1 (broadcastInDim S1024x1 ![0] bcast_S1024_S1024x1_0
    (Host.reduceAdd x (constant S_ .f32 0x00000000#32) reducesTo_S1024x2_S1024_d1 h_S_)))

/-- One expert's two layers on all tokens. -/
def ffn (X : FVec F S1024x1024 .f32) (W1 : FVec F S8x1024x2048 .f32) (W2 : FVec F S8x2048x1024 .f32) (o : ℕ)
    (h1 : S8x1024x2048.Slices ![o, 0, 0] S1x1024x2048) (h2 : S8x2048x1024.Slices ![o, 0, 0] S1x2048x1024) : FVec F S1024x1024 .f32 :=
  Host.dotGeneral dot_S1024x2048_S2048x1024_S1024x1024_1_0_0_1_n_n none
    (maximumf (Host.dotGeneral dot_S1024x1024_S1024x2048_S1024x2048_1_0_0_1_n_n none X
        (shapeCast S1024x2048 (extractStridedSlice S1x1024x2048 ![o, 0, 0] W1 h1) shapeCasts_S1x1024x2048_S1024x2048))
      (broadcastInDim S1024x2048 ![] bcast_S_S1024x2048 (constant S_ .f32 0x00000000#32)))
    (shapeCast S2048x1024 (extractStridedSlice S1x2048x1024 ![o, 0, 0] W2 h2) shapeCasts_S1x2048x1024_S2048x1024)

/-- The expert's layers times the weight of the place, where the place is the expert. -/
def masked (i : IVec S1024x2 32) (w : FVec F S1024x2 .f32) (e : BitVec 32) (y : FVec F S1024x1024 .f32) (o : ℕ)
    (h : S1024x2.Slices ![0, o] S1024x1) : FVec F S1024x1024 .f32 :=
  select (broadcastInDim S1024x1024 ![0, 1] bcast_S1024x1_S1024x1024_0_1
      (cmpi .eq (extractStridedSlice S1024x1 ![0, o] i h) (broadcastInDim S1024x1 ![] bcast_S_S1024x1 (constantI S_ 32 e))))
    (mulf y (broadcastInDim S1024x1024 ![0, 1] bcast_S1024x1_S1024x1024_0_1 (extractStridedSlice S1024x1 ![0, o] w h)))
    (broadcastInDim S1024x1024 ![] bcast_S_S1024x1024 (id (constant S_ .f32 0x00000000#32)))

/-- One expert's two additions. -/
def added (i : IVec S1024x2 32) (w : FVec F S1024x2 .f32) (e : BitVec 32) (y z : FVec F S1024x1024 .f32) : FVec F S1024x1024 .f32 :=
  addf (addf z (masked i w e y 0 slices_S1024x2_S1024x1_0_0)) (masked i w e y 1 slices_S1024x2_S1024x1_0_1)

/-- All of it. -/
def moe (X : FVec F S1024x1024 .f32) (R : FVec F S1024x8 .f32) (W1 : FVec F S8x1024x2048 .f32) (W2 : FVec F S8x2048x1024 .f32) :
    FVec F S1024x1024 .f32 :=
  let i := places (gates X R)
  let w := weights (exps (largest (gates X R) i))
  let y := ffn X W1 W2
  added i w 7#32 (y 7 slices_S8x1024x2048_S1x1024x2048_7_0_0 slices_S8x2048x1024_S1x2048x1024_7_0_0)
    (added i w 6#32 (y 6 slices_S8x1024x2048_S1x1024x2048_6_0_0 slices_S8x2048x1024_S1x2048x1024_6_0_0)
    (added i w 5#32 (y 5 slices_S8x1024x2048_S1x1024x2048_5_0_0 slices_S8x2048x1024_S1x2048x1024_5_0_0)
    (added i w 4#32 (y 4 slices_S8x1024x2048_S1x1024x2048_4_0_0 slices_S8x2048x1024_S1x2048x1024_4_0_0)
    (added i w 3#32 (y 3 slices_S8x1024x2048_S1x1024x2048_3_0_0 slices_S8x2048x1024_S1x2048x1024_3_0_0)
    (added i w 2#32 (y 2 slices_S8x1024x2048_S1x1024x2048_2_0_0 slices_S8x2048x1024_S1x2048x1024_2_0_0)
    (added i w 1#32 (y 1 slices_S8x1024x2048_S1x1024x2048_1_0_0 slices_S8x2048x1024_S1x2048x1024_1_0_0)
    (added i w 0#32 (y 0 slices_S8x1024x2048_S1x1024x2048_0_0_0 slices_S8x2048x1024_S1x2048x1024_0_0_0)
      (broadcastInDim S1024x1024 ![] bcast_S_S1024x1024 (constant S_ .f32 0x00000000#32)))))))))

/-- The run's composed term is that chain. -/
theorem run_term (V : Valuation τ sig (Elt F)) : res_main_v206 V
    = moe (V (Proc.devRef .tc main_arg0)) (V (Proc.devRef .tc main_arg1)) (V (Proc.devRef .tc main_arg2)) (V (Proc.devRef .tc main_arg3)) := rfl

end Arrays

/-! ## Row by row -/

section Rows
variable (X : FVec Ideal S1024x1024 .f32) (R : FVec Ideal S1024x8 .f32) (W1 : FVec Ideal S8x1024x2048 .f32) (W2 : FVec Ideal S8x2048x1024 .f32)

/-- The gates of row `n`. -/
abbrev gateRow (n : Fin 1024) : Fin 8 → EReal := gate (fun k => X (ix2 n k)) (fun k j => R (ix2 k j))

/-- The places of the two largest gates of row `n`. -/
def top1 (n : Fin 1024) : Fin 8 := sortedFrom (fun x y => decide (-gateRow X R n x < -gateRow X R n y)) 0
def top2 (n : Fin 1024) : Fin 8 := sortedFrom (fun x y => decide (-gateRow X R n x < -gateRow X R n y)) 1

theorem two_top (n : Fin 1024) : Two (gateRow X R n) (top1 X R n) (top2 X R n) := two_sortedFrom _

theorem gates_at (n : Fin 1024) (j : Fin 8) : gates X R (ix2 n j) = gateRow X R n j := by
  pointwise [gates]
  rfl

/-- The sort's comparison of two of its pairs. -/
theorem comparator_eq (p q : Ideal .f32 × BitVec 32) : (comparator_f32_i32_d1 p q == 1#1) = decide (p.1 < q.1) := by
  have hz : ∀ a : EReal, Scalar.select (Ideal.cmp .oeq a (Ideal.ofBits .f32 0x00000000#32)) (Ideal.ofBits .f32 0x00000000#32) a = a := fun a => by
    rw [Ideal.ofBits_zero_f32]
    by_cases h : a = 0 <;> simp [Ideal.cmp, Scalar.select, h]
  have hn : ∀ a b : EReal, Scalar.select (Ideal.cmp .une a a) b a = a := fun a b => by simp [Ideal.cmp, Scalar.select]
  have e : comparator_f32_i32_d1 p q = Ideal.cmp .olt p.1 q.1 := by
    show Ideal.cmp .olt (Scalar.select (Ideal.cmp .une p.1 p.1) _ (Scalar.select (Ideal.cmp .oeq p.1 (Ideal.ofBits .f32 0x00000000#32)) (Ideal.ofBits .f32 0x00000000#32) p.1))
      (Scalar.select (Ideal.cmp .une q.1 q.1) _ (Scalar.select (Ideal.cmp .oeq q.1 (Ideal.ofBits .f32 0x00000000#32)) (Ideal.ofBits .f32 0x00000000#32) q.1)) = _
    simp only [hz, hn]
  rw [e]
  by_cases h : p.1 < q.1 <;> simp [Ideal.cmp, h]

theorem along_ix2 (n : Fin 1024) (j k : Fin 8) : (ix2 n j : S1024x8.Idx).along 1 k = ix2 n k := by
  funext a
  match a with
  | ⟨0, _⟩ => rfl
  | ⟨1, _⟩ => rfl

/-- The place in column `j`. -/
def top (n : Fin 1024) (j : Fin 2) : Fin 8 := if j = 0 then top1 X R n else top2 X R n

theorem places_at (n : Fin 1024) (j : Fin 2) : places (gates X R) (ix2 n j) = BitVec.ofNat 32 (top X R n j).val := by
  pointwise [places, Host.sort2]
  simp only [along_ix2, comparator_eq, gates_at]
  fin_cases j <;> rfl

theorem wrapped_at (n : Fin 1024) (j : Fin 2) : wrapped (places (gates X R)) (ix3 n j 0) = BitVec.ofNat 32 (top X R n j).val := by
  pointwise [wrapped, places_at]
  generalize top X R n j = k
  revert k
  decide

theorem within_at (n : Fin 1024) (j : Fin 2) : within (wrapped (places (gates X R))) (ix2 n j) = 1#1 := by
  have h : ∀ x : Fin 1, wrapped (places (gates X R)) (ix3 n j x) = BitVec.ofNat 32 (top X R n j).val := fun x => by
    obtain rfl : x = 0 := Subsingleton.elim _ _
    exact wrapped_at X R n j
  pointwise [within, h]
  generalize top X R n j = k
  revert k
  decide

theorem gather_at (g : FVec Ideal S1024x8 .f32) (i : IVec S1024x2x1 32) (n : Fin 1024) (j : Fin 2) (k : Fin 8)
    (h : i (ix3 n j 0) = BitVec.ofNat 32 k.val) :
    Host.gather gather_S1024x8_S1024x2x1_S1024x2_n_1_0_0_1_2_11 g i (ix2 n j) = g (ix2 n k) := by
  unfold Host.gather
  refine congrArg g (funext fun a => Fin.ext ?_)
  match a with
  | ⟨0, _⟩ =>
    show (gather_S1024x8_S1024x2x1_S1024x2_n_1_0_0_1_2_11).start (ix2 n j) i 0 + (gather_S1024x8_S1024x2x1_S1024x2_n_1_0_0_1_2_11).batchCoord (ix2 n j) 0
      + (gather_S1024x8_S1024x2x1_S1024x2_n_1_0_0_1_2_11).offCoord (ix2 n j) 0 = n.val
    rw [GatherDims.offCoord_eq_zero _ _ _ (by decide)]
    unfold GatherDims.start
    rw [dif_neg (by decide), Nat.zero_add, Nat.add_zero]
    rfl
  | ⟨1, _⟩ =>
    show (gather_S1024x8_S1024x2x1_S1024x2_n_1_0_0_1_2_11).start (ix2 n j) i 1 + (gather_S1024x8_S1024x2x1_S1024x2_n_1_0_0_1_2_11).batchCoord (ix2 n j) 1
      + (gather_S1024x8_S1024x2x1_S1024x2_n_1_0_0_1_2_11).offCoord (ix2 n j) 1 = k.val
    rw [GatherDims.batchCoord_eq_zero _ _ _ (by decide), GatherDims.offCoord_eq_zero _ _ _ (by decide)]
    unfold GatherDims.start
    rw [dif_pos (by decide)]
    have hsi : (gather_S1024x8_S1024x2x1_S1024x2_n_1_0_0_1_2_11).siIdx (ix2 n j)
        ⟨List.idxOf (1 : Fin 2) gather_S1024x8_S1024x2x1_S1024x2_n_1_0_0_1_2_11.startIndexMap, by decide⟩ = ix3 n j 0 := by
      funext b; refine Fin.ext ?_
      match b with
      | ⟨0, _⟩ => rfl
      | ⟨1, _⟩ => rfl
      | ⟨2, _⟩ => rfl
    erw [hsi, h]
    rw [toInt_place _ k.isLt.le]
    show min k.val 7 + 0 + 0 = k.val
    omega

theorem largest_at (n : Fin 1024) (j : Fin 2) : largest (gates X R) (places (gates X R)) (ix2 n j) = gateRow X R n (top X R n j) := by
  pointwise [largest, within_at, gather_at (gates X R) _ n j _ (wrapped_at X R n j), gates_at]

end Rows

end Cert.MoeProof.Ref
-- ==== Proof.RefValue.lean ====
/- The reference's chain of arrays at one place of its result. -/
module

public import proofs.«01_k».proof.Proof.RefArrays

@[expose] public section

set_option maxRecDepth 16384

noncomputable section

namespace Cert.MoeProof.Ref

open Cert.ReferenceIdeal Cert.ReferenceIdeal.Gen Cert.ReferenceIdeal.Value
open Idealize.ShloMosaic

variable (X : FVec Ideal S1024x1024 .f32) (R : FVec Ideal S1024x8 .f32) (W1 : FVec Ideal S8x1024x2048 .f32) (W2 : FVec Ideal S8x2048x1024 .f32)

theorem exps_at (v : FVec Ideal S1024x2 .f32) (n : Fin 1024) (j : Fin 2) :
    exps v (ix2 n j) = Ideal.exp (v (ix2 n j) - max (v (ix2 n 0)) (v (ix2 n 1))) := by
  pointwise [exps]
  rw [ofBits_bot, show (Finset.univ : Finset (Fin 2)) = {0, 1} from rfl, Finset.fold_insert (by simp), Finset.fold_singleton, max_bot_right]

theorem weights_at (x : FVec Ideal S1024x2 .f32) (n : Fin 1024) (j : Fin 2) :
    weights x (ix2 n j) = Ideal.div (x (ix2 n j)) (x (ix2 n 0) + x (ix2 n 1)) := by
  pointwise [weights]
  rw [Fin.sum_univ_two]

/-- One expert's two layers on one token, at one column. -/
def row (x : Fin 1024 → EReal) (w1 : Fin 1024 → Fin 2048 → EReal) (w2 : Fin 2048 → EReal) : EReal :=
  ∑ k, max (∑ m, x m * w1 m k) 0 * w2 k

theorem ffn_at (o : Fin 8) (h1 h2) (n d : Fin 1024) : ffn X W1 W2 o.val h1 h2 (ix2 n d)
    = row (fun m => X (ix2 n m)) (fun m k => W1 (ix3 o m k)) (fun k => W2 (ix3 o k d)) := by
  pointwise [ffn]
  rfl

theorem masked_at (i : IVec S1024x2 32) (w : FVec Ideal S1024x2 .f32) (e : BitVec 32) (y : FVec Ideal S1024x1024 .f32) (o : Fin 2)
    (h : S1024x2.Slices ![0, o.val] S1024x1) (n d : Fin 1024) : masked i w e y o.val h (ix2 n d)
    = Scalar.select (IntOp.cmpi .eq (i (ix2 n o)) e) (y (ix2 n d) * w (ix2 n o)) 0 := by
  pointwise [masked]
  exact congrArg _ Ideal.ofBits_zero_f32

/-- What one expert adds to a token whose two places are `a` and `b`: `y` times the share of each place that is the expert. -/
def term (a b e : Fin 8) (u v y : EReal) : EReal :=
  (if a = e then y * share1 u v else 0) + (if b = e then y * share2 u v else 0)

section Token
variable {n : Fin 1024} (hl : ⊥ < gateRow X R n (top2 X R n)) (hu : gateRow X R n (top1 X R n) < ⊤)
include hl hu

/-- The two weights, of finite gates. -/
theorem weights_top : weights (exps (largest (gates X R) (places (gates X R)))) (ix2 n 0)
      = share1 (gateRow X R n (top1 X R n)) (gateRow X R n (top2 X R n))
    ∧ weights (exps (largest (gates X R) (places (gates X R)))) (ix2 n 1)
      = share2 (gateRow X R n (top1 X R n)) (gateRow X R n (top2 X R n)) := by
  have hle : gateRow X R n (top2 X R n) ≤ gateRow X R n (top1 X R n) := ((two_top X R n).first _).1
  have h1 : Ideal.exp (gateRow X R n (top1 X R n) - gateRow X R n (top1 X R n)) = 1 := by
    rw [EReal.sub_self hu.ne (lt_of_le_of_lt bot_le (hl.trans_le hle)).ne']
    exact (Ideal.exp_coe (r := 0)).trans (by simp)
  rw [weights_at, weights_at, exps_at, exps_at, largest_at, largest_at, show top X R n 0 = top1 X R n from rfl, show top X R n 1 = top2 X R n from rfl,
    max_eq_left hle, h1]
  exact ⟨rfl, rfl⟩

theorem added_at (e : Fin 8) (y z : FVec Ideal S1024x1024 .f32) (d : Fin 1024) {s : EReal} (hz : z (ix2 n d) = s) :
    added (places (gates X R)) (weights (exps (largest (gates X R) (places (gates X R))))) (BitVec.ofNat 32 e.val) y z (ix2 n d)
      = s + term (top1 X R n) (top2 X R n) e (gateRow X R n (top1 X R n)) (gateRow X R n (top2 X R n)) (y (ix2 n d)) := by
  have hp (o : Fin 2) (h) : masked (places (gates X R)) (weights (exps (largest (gates X R) (places (gates X R))))) (BitVec.ofNat 32 e.val) y o.val h (ix2 n d)
      = if top X R n o = e then y (ix2 n d) * weights (exps (largest (gates X R) (places (gates X R)))) (ix2 n o) else 0 := by
    rw [masked_at, places_at, cmp_places, pick_ofBool]
    simp only [decide_eq_true_eq]
  have h0 := hp 0 slices_S1024x2_S1024x1_0_0
  have h1 := hp 1 slices_S1024x2_S1024x1_0_1
  rw [(weights_top X R hl hu).1] at h0
  rw [(weights_top X R hl hu).2] at h1
  show (z (ix2 n d) + _) + _ = _
  rw [term, ← add_assoc]
  exact congrArg₂ _ (congrArg₂ _ hz h0) h1

/-- The reference at a token and a column. -/
theorem moe_at (d : Fin 1024) : moe X R W1 W2 (ix2 n d)
    = ∑ e, term (top1 X R n) (top2 X R n) e (gateRow X R n (top1 X R n)) (gateRow X R n (top2 X R n))
        (row (fun m => X (ix2 n m)) (fun m k => W1 (ix3 e m k)) (fun k => W2 (ix3 e k d))) := by
  have step (e : Fin 8) (h1 h2) (z : FVec Ideal S1024x1024 .f32) {s : EReal} (hz : z (ix2 n d) = s) :=
    (added_at X R hl hu e (ffn X W1 W2 e.val h1 h2) z d hz).trans (congrArg (fun y => s + term _ _ e _ _ y) (ffn_at X W1 W2 e h1 h2 n d))
  rw [Fin.sum_univ_eight, ← zero_add (term _ _ 0 _ _ _)]
  exact step 7 _ _ _ (step 6 _ _ _ (step 5 _ _ _ (step 4 _ _ _ (step 3 _ _ _ (step 2 _ _ _ (step 1 _ _ _ (step 0 _ _ _ Ideal.ofBits_zero_f32)))))))

end Token

end Cert.MoeProof.Ref
-- ==== Proof.Slot.lean ====
/- One expert's contribution to a block of tokens, as an array and then token by token.

The body numbers the tokens that chose the expert, in order; the token of number `n` takes slot `n - 1` of 192. A
token's row is gathered into its slot by a product with zeros and ones, runs through the expert's two layers there, and
comes back by a product with the same zeros and ones times the token's weight. So a token that did not choose the
expert gets zero, and one that did and whose number is at most 192 gets its weight times the expert's row. -/
module

public import proofs.«01_k».proof.Proof.Protocol
public import proofs.«01_k».proof.Proof.Gates

@[expose] public section

set_option maxRecDepth 16384

noncomputable section

namespace Cert.MoeProof

open Cert.KernelIdeal Cert.KernelIdeal.Gen
open Idealize.ShloMosaic

/-! ## As arrays -/

section Arrays
variable {F : FTy → Type} [FloatOps F] [Named F]

/-- Expert `j` of the device of coordinate `y`, as a word. -/
def expertWord (y j : BitVec 32) : BitVec 32 := Scalar.addi (Scalar.muli y 4#32) j

/-- The tokens that chose the expert `e` in one of their two places. -/
def chose (e : BitVec 32) (a b : IVec S512x1 32) : IVec S512x1 1 :=
  ori (cmpi .eq a (broadcast S512x1 e)) (cmpi .eq b (broadcast S512x1 e))

/-- The tokens' weights at the expert. -/
def weight (e : BitVec 32) (a b : IVec S512x1 32) (u v : FVec F S512x1 .f32) : FVec F S512x1 .f32 :=
  addf (select (cmpi .eq a (broadcast S512x1 e)) u (broadcast S512x1 (Scalar.ofBits .f32 0x00000000#32)))
    (select (cmpi .eq b (broadcast S512x1 e)) v (broadcast S512x1 (Scalar.ofBits .f32 0x00000000#32)))

/-- The tokens' numbers among those that chose the expert. -/
def number (e : BitVec 32) (a b : IVec S512x1 32) : IVec S512x1 32 :=
  fptosi 32 (matmul dot_S512x512_S512x1_S512x1_1_0_0_1_n_n none (k0_pay1 (F := F))
    (select (chose e a b) (broadcast S512x1 (Scalar.ofBits .f32 0x3F800000#32)) (broadcast S512x1 (Scalar.ofBits .f32 0x00000000#32)))
    (constant S512x1 .f32 0x00000000#32))

/-- One where the token has the slot. -/
def oneHot (e : BitVec 32) (a b : IVec S512x1 32) : FVec F S512x192 .f32 :=
  select (andi (cmpi .eq slots (broadcastTo S512x192 (subi (number (F := F) e a b) (broadcast S512x1 1#32)) broadcasts_S512x1_S512x192))
      (broadcastTo S512x192 (chose e a b) broadcasts_S512x1_S512x192))
    (broadcast S512x192 (Scalar.ofBits .f32 0x3F800000#32)) (broadcast S512x192 (Scalar.ofBits .f32 0x00000000#32))

/-- The slots' rows through the expert's two layers. -/
def layers (o : FVec F S512x192 .f32) (x : FVec F S512x1024 .f32) (p : Vec F S1x1024x2048 .f32) (q : Vec F S1x2048x1024 .f32) :
    FVec F S192x1024 .f32 :=
  matmul dot_S192x2048_S2048x1024_S192x1024_1_0_0_1_n_n none
    (maximumf (matmul dot_S192x1024_S1024x2048_S192x2048_1_0_0_1_n_n none
        (matmul dot_S512x192_S512x1024_S192x1024_0_0_1_1_n_n none o x (constant S192x1024 .f32 0x00000000#32))
        (shapeCast S1024x2048 p shapeCasts_S1x1024x2048_S1024x2048) (constant S192x2048 .f32 0x00000000#32))
      (broadcast S192x2048 (Scalar.ofBits .f32 0x00000000#32)))
    (shapeCast S2048x1024 q shapeCasts_S1x2048x1024_S2048x1024) (constant S192x1024 .f32 0x00000000#32)

/-- The expert's contribution. -/
def contribE (e : BitVec 32) (a b : IVec S512x1 32) (u v : FVec F S512x1 .f32) (x : FVec F S512x1024 .f32)
    (p : Vec F S1x1024x2048 .f32) (q : Vec F S1x2048x1024 .f32) : FVec F S512x1024 .f32 :=
  matmul dot_S512x192_S192x1024_S512x1024_1_0_0_1_n_n none
    (mulf (oneHot e a b) (broadcastTo S512x192 (weight e a b u v) broadcasts_S512x1_S512x192))
    (layers (oneHot e a b) x p q) (constant S512x1024 .f32 0x00000000#32)

/-- The same from the router and the tokens. -/
def partOf (e : BitVec 32) (r : FVec F S1024x8 .f32) (x : FVec F S512x1024 .f32)
    (p : Vec F S1x1024x2048 .f32) (q : Vec F S1x2048x1024 .f32) : FVec F S512x1024 .f32 :=
  contribE e (k0_pay16 r x) (k0_pay19 r x) (k0_pay21 r x) (k0_pay22 r x) x p q

variable (y : BitVec 32) (r : FVec F S1024x8 .f32) (x : Vec F S512x1024 .f32)
    (p0 p1 p2 p3 : Vec F S1x1024x2048 .f32) (q0 q1 q2 q3 : Vec F S1x2048x1024 .f32)

/-- What is sent is the sum of four experts' contributions. -/
theorem contribA_sum : contribA y r x p0 p1 p2 p3 q0 q1 q2 q3
    = shapeCast S512x1024 (addf (addf (addf (partOf (expertWord y 0#32) r x p0 q0) (partOf (expertWord y 1#32) r x p1 q1))
      (partOf (expertWord y 2#32) r x p2 q2)) (partOf (expertWord y 3#32) r x p3 q3)) shapeCasts_S512x1024_S512x1024 := rfl

/-- What is stored is the sum of four experts' contributions and what was received. -/
theorem contribB_sum (z : Vec F S512x1024 .f32) : contribB y r x p0 p1 p2 p3 q0 q1 q2 q3 z
    = addf (addf (addf (addf (partOf (expertWord y 2#32) r (k0_pay4 x) p2 q2) (partOf (expertWord y 3#32) r (k0_pay4 x) p3 q3))
      (partOf (expertWord y 0#32) r (k0_pay4 x) p0 q0)) (partOf (expertWord y 1#32) r (k0_pay4 x) p1 q1)) z := rfl

end Arrays

/-! ## Token by token -/

/-- The number of tokens up to `t` that have `P`. -/
def count (P : Fin 512 → Prop) [DecidablePred P] (t : Fin 512) : ℕ := (Finset.univ.filter fun i : Fin 512 => i ≤ t ∧ P i).card

section Token
variable {e : Fin 8} {a b : IVec S512x1 32} {A B : Fin 512 → Fin 8}
  (ha : ∀ t, a (ix2 t 0) = BitVec.ofNat 32 (A t).val) (hb : ∀ t, b (ix2 t 0) = BitVec.ofNat 32 (B t).val)

/-- Token `t` chose the expert. -/
abbrev Has (A B : Fin 512 → Fin 8) (e : Fin 8) (t : Fin 512) : Prop := A t = e ∨ B t = e

include ha hb

theorem chose_at (t : Fin 512) : chose (BitVec.ofNat 32 e.val) a b (ix2 t 0) = BitVec.ofBool (decide (Has A B e t)) := by
  pointwise [chose, ha, hb]
  rw [cmp_places, cmp_places]
  by_cases h1 : A t = e <;> by_cases h2 : B t = e <;> simp [h1, h2, IntOp.ori]

theorem weight_at (u v : FVec Ideal S512x1 .f32) (t : Fin 512) : weight (BitVec.ofNat 32 e.val) a b u v (ix2 t 0)
    = (if A t = e then u (ix2 t 0) else 0) + (if B t = e then v (ix2 t 0) else 0) := by
  pointwise [weight, ha, hb]
  rw [cmp_places, cmp_places, pick_ofBool, pick_ofBool]
  simp only [decide_eq_true_eq]

theorem number_at (t : Fin 512) : number (F := Ideal) (BitVec.ofNat 32 e.val) a b (ix2 t 0)
    = BitVec.ofNat 32 (count (Has A B e) t) := by
  pointwise [number, k0_pay1, chose_at ha hb]
  have hs : ∀ i : Fin 512, Scalar.select (IntOp.cmpi CmpIPredicate.sge (BitVec.ofNat 32 t.val) (BitVec.ofNat 32 i.val))
      (if Has A B e i then (1 : EReal) else 0) 0 = if i ≤ t ∧ Has A B e i then 1 else 0 := fun i => by
    have hc : IntOp.cmpi CmpIPredicate.sge (BitVec.ofNat 32 t.val) (BitVec.ofNat 32 i.val) = BitVec.ofBool (decide (i ≤ t)) := by
      unfold IntOp.cmpi
      congr 1
      have h1 := toInt_small (n := t.val) (by omega)
      have h2 := toInt_small (n := i.val) (by omega)
      simp only [BitVec.sle_eq_decide, h1, h2, Fin.le_def, Nat.cast_le]
    rw [hc, pick_ofBool]
    by_cases h1 : i ≤ t <;> simp [h1]
  rw [Finset.sum_congr rfl fun i _ => hs i, Finset.sum_boole]
  exact fptosi_nat (lt_of_le_of_lt (Finset.card_le_univ _) (by simp))

omit ha hb in
theorem count_le (P : Fin 512 → Prop) [DecidablePred P] (t : Fin 512) : count P t ≤ 512 :=
  (Finset.card_le_univ _).trans (by simp)

omit ha hb in
theorem count_pos {P : Fin 512 → Prop} [DecidablePred P] {t : Fin 512} (h : P t) : 0 < count P t :=
  Finset.card_pos.2 ⟨t, by simpa using h⟩

omit ha hb in
theorem count_lt {P : Fin 512 → Prop} [DecidablePred P] {t s : Fin 512} (h : t < s) (hs : P s) : count P t < count P s := by
  refine Finset.card_lt_card ⟨fun i hi => ?_, fun hsub => ?_⟩
  · simp only [Finset.mem_filter, Finset.mem_univ, true_and] at hi ⊢
    exact ⟨hi.1.trans h.le, hi.2⟩
  · have := hsub (show s ∈ _ by simpa using hs)
    simp only [Finset.mem_filter, Finset.mem_univ, true_and] at this
    exact absurd this.1 (not_le.2 h)

omit ha hb in
theorem count_inj {P : Fin 512 → Prop} [DecidablePred P] {t s : Fin 512} (ht : P t) (hs : P s) (h : count P t = count P s) : t = s := by
  rcases lt_trichotomy t s with hlt | rfl | hlt
  · exact absurd h (count_lt hlt hs).ne
  · rfl
  · exact absurd h (count_lt hlt ht).ne'

theorem oneHot_at (t : Fin 512) (s : Fin 192) : oneHot (F := Ideal) (BitVec.ofNat 32 e.val) a b (ix2 t s)
    = if Has A B e t ∧ s.val + 1 = count (Has A B e) t then 1 else 0 := by
  pointwise [oneHot, slots, chose_at ha hb, number_at ha hb]
  by_cases h : Has A B e t
  · have hn := count_pos h
    have hle := count_le (Has A B e) t
    have hw : IntOp.subi (BitVec.ofNat 32 (count (Has A B e) t)) 1#32 = BitVec.ofNat 32 (count (Has A B e) t - 1) := by
      refine BitVec.eq_of_toNat_eq ?_
      simp only [IntOp.subi, BitVec.toNat_sub, BitVec.toNat_ofNat]
      omega
    rw [hw, cmp_words (by omega) (by omega)]
    by_cases h' : s.val + 1 = count (Has A B e) t
    · have h'' : s.val = count (Has A B e) t - 1 := by omega
      simp [h, h'', IntOp.andi, Scalar.select]
      omega
    · have h'' : s.val ≠ count (Has A B e) t - 1 := by omega
      simp [h, h', h'', IntOp.andi, Scalar.select]
  · generalize IntOp.cmpi CmpIPredicate.eq _ _ = c
    rcases BitVec.eq_zero_or_eq_one c with rfl | rfl <;> simp [h, IntOp.andi, Scalar.select]

theorem layers_at (x : FVec Ideal S512x1024 .f32) (p : Vec Ideal S1x1024x2048 .f32) (q : Vec Ideal S1x2048x1024 .f32)
    {t : Fin 512} (ht : Has A B e t) (s : Fin 192) (hs : s.val + 1 = count (Has A B e) t) (d : Fin 1024) :
    layers (oneHot (BitVec.ofNat 32 e.val) a b) x p q (ix2 s d)
      = ∑ k : Fin 2048, max (∑ m : Fin 1024, x (ix2 t m) * p (ix3 0 m k)) 0 * q (ix3 0 k d) := by
  have hg : ∀ m : Fin 1024, ∑ i : Fin 512, (if Has A B e i ∧ s.val + 1 = count (Has A B e) i then 1 else 0) * x (ix2 i m) = x (ix2 t m) := fun m => by
    rw [Finset.sum_eq_single t]
    · rw [if_pos ⟨ht, hs⟩, one_mul]
    · intro i _ hi
      rw [if_neg fun h => hi (count_inj h.1 ht (h.2.symm.trans hs)), zero_mul]
    · simp
  pointwise [layers, oneHot_at ha hb]
  simp only [hg]

theorem contribE_at (u v : FVec Ideal S512x1 .f32) (x : FVec Ideal S512x1024 .f32) (p : Vec Ideal S1x1024x2048 .f32) (q : Vec Ideal S1x2048x1024 .f32)
    (t : Fin 512) (d : Fin 1024) (hc : Has A B e t → count (Has A B e) t ≤ 192) :
    contribE (BitVec.ofNat 32 e.val) a b u v x p q (ix2 t d)
      = if Has A B e t then ((if A t = e then u (ix2 t 0) else 0) + (if B t = e then v (ix2 t 0) else 0))
          * ∑ k : Fin 2048, max (∑ m : Fin 1024, x (ix2 t m) * p (ix3 0 m k)) 0 * q (ix3 0 k d) else 0 := by
  pointwise [contribE, oneHot_at ha hb, weight_at ha hb]
  by_cases h : Has A B e t
  · obtain ⟨s, hs⟩ : ∃ s : Fin 192, s.val + 1 = count (Has A B e) t :=
      ⟨⟨count (Has A B e) t - 1, by have := hc h; have := count_pos h; omega⟩, by have := count_pos h; dsimp only; omega⟩
    rw [if_pos h, Finset.sum_eq_single s]
    · rw [if_pos ⟨h, hs⟩, one_mul, layers_at ha hb x p q h s hs]
    · intro i _ hi
      rw [if_neg fun h' => hi (Fin.ext (by have := h'.2; omega)), zero_mul, zero_mul]
    · simp
  · rw [if_neg h]
    refine Finset.sum_eq_zero fun i _ => ?_
    rw [if_neg fun h' => h h'.1, zero_mul, zero_mul]

end Token

end Cert.MoeProof
-- ==== Proof.Mask.lean ====
/- The predicate of the value claim, read at one token: its experts' queues hold at most 192 tokens of the shard up to it, and its two gates
lie strictly between the kernel's least gate and infinity. -/
module

public import proofs.«01_k».proof.Proof.Gen.On_within_capacity
public import proofs.«01_k».proof.Proof.RefValue
public import proofs.«01_k».proof.Proof.Slot
public import Idealize.ShloMosaic.Lib.Routing.Ops
public import Idealize.ShloMosaic.Lib.Routing.OpsOrder

@[expose] public section

set_option maxRecDepth 16384

noncomputable section

namespace Cert.MoeProof.Mask

open Cert.On_within_capacity Cert.On_within_capacity.Gen
open Idealize.ShloMosaic Cert.MoeProof.Ref

section Arrays
variable {F : FTy → Type} [FloatOps F]

/-- One where a token chose an expert. -/
def picked (i : IVec S1024x2 32) : IVec S1024x8 1 :=
  Host.reduce IntOp.ori (cmpi .eq
      (broadcastInDim S1024x2x8 ![0, 1, 2] bcast_S1024x2x1_S1024x2x8_0_1_2 (broadcastInDim S1024x2x1 ![0, 1] bcast_S1024x2_S1024x2x1_0_1 i))
      (broadcastInDim S1024x2x8 ![0, 1, 2] bcast_S1x1x8_S1024x2x8_0_1_2 (broadcastInDim S1x1x8 ![2] bcast_S8_S1x1x8_2 (iotaInDim S8 32 0))))
    (constantI S_ 1 0#1) reducesTo_S1024x2x8_S1024x8_d1 h_S_

/-- The same as words, each shard of 512 tokens apart. -/
def ones (p : IVec S1024x8 1) : IVec S2x512x8 32 := shapeCast S2x512x8 (extui 32 p natLt_1_32) shapeCasts_S1024x8_S2x512x8

/-- How many tokens of the shard chose the expert, up to each. -/
def queue (q : IVec S2x512x8 32) : IVec S2x512x8 32 :=
  Host.reduceWindow IntOp.addi ![1, 512, 1] ![1, 1, 1] ![0, 511, 0] ![0, 0, 0] q (broadcastInDim S_ ![] bcast_S_S_ (constantI S_ 32 0#32))
    reduceWindows_S2x512x8_S2x512x8_w1s1p0_0_w512s1p511_0_w1s1p0_0 h_S_

/-- One where every expert the token chose has room for it. -/
def room (p : IVec S1024x8 1) (q : IVec S2x512x8 32) : IVec S1024 1 :=
  Host.reduce IntOp.andi (select p (cmpi .sle (shapeCast S1024x8 q shapeCasts_S2x512x8_S1024x8)
      (broadcastInDim S1024x8 ![] bcast_S_S1024x8 (constantI S_ 32 192#32)))
    (broadcastInDim S1024x8 ![] bcast_S_S1024x8 (constantI S_ 1 1#1))) (constantI S_ 1 1#1) reducesTo_S1024x8_S1024_d1 h_S_

/-- One where the gates lie between the bounds as well. -/
def bounded (v : FVec F S1024x2 .f32) (k : IVec S1024 1) : IVec S1024x1024 1 :=
  broadcastInDim S1024x1024 ![0, 1] bcast_S1024x1_S1024x1024_0_1 (broadcastInDim S1024x1 ![0] bcast_S1024_S1024x1_0
    (andi (andi k (cmpf .ogt (shapeCast S1024 (extractStridedSlice S1024x1 ![0, 1] v slices_S1024x2_S1024x1_0_1) shapeCasts_S1024x1_S1024)
        (broadcastInDim S1024 ![] bcast_S_S1024 (constant S_ .f32 0xFF800000#32))))
      (cmpf .olt (shapeCast S1024 (extractStridedSlice S1024x1 ![0, 0] v slices_S1024x2_S1024x1_0_0) shapeCasts_S1024x1_S1024)
        (broadcastInDim S1024 ![] bcast_S_S1024 (constant S_ .f32 0x7F800000#32)))))

/-- The predicate is that chain. -/
theorem mask_eq (X : FVec F S1024x1024 .f32) (R : FVec F S1024x8 .f32) (W1 : FVec F S8x1024x2048 .f32) (W2 : FVec F S8x2048x1024 .f32) :
    fn X R W1 W2 = bounded (largest (gates X R) (places (gates X R))) (room (picked (places (gates X R))) (queue (ones (picked (places (gates X R)))))) := rfl

end Arrays

/-- Token `t` of shard `x`. -/
def token (x : Fin 2) (t : Fin 512) : Fin 1024 := ⟨x.val * 512 + t.val, by omega⟩

/-- A window of 512 padded 511 low counts the tokens up to each. -/
theorem queue_at (q : IVec S2x512x8 32) (P : Fin 512 → Prop) [DecidablePred P] (x : Fin 2) (j : Fin 512) (e : Fin 8)
    (hq : ∀ i, q (ix3 x i e) = BitVec.ofNat 32 (if P i then 1 else 0)) : queue q (ix3 x j e) = BitVec.ofNat 32 (count P j) := by
  classical
  have hN : (⟨3, ![1, 512, 1]⟩ : Shape).numel = 512 := by
    show ∏ a : Fin 3, (![1, 512, 1] : Fin 3 → Nat) a = 512
    rw [Fin.prod_univ_three]
    rfl
  have hw : ∀ n, (⟨3, ![1, 512, 1]⟩ : Shape).rowMajor.symm n = ix3 (0 : Fin 1) (n.cast hN) (0 : Fin 1) := fun n =>
    ((⟨3, ![1, 512, 1]⟩ : Shape).rowMajor.symm_apply_eq).2 (Fin.ext (by
      rw [Shape.rowMajor_val_three]
      show n.val = (0 * 512 + n.val) * 1 + 0
      omega))
  let f : Fin 512 → ℕ := fun n => if 511 ≤ j.val + n.val ∧ ∃ h : j.val + n.val - 511 < 512, P ⟨j.val + n.val - 511, h⟩ then 1 else 0
  have hj := j.isLt
  unfold queue Host.reduceWindow
  refine (Routing.foldl_addi_ofNat _ _ (fun n => f (n.cast hN)) (fun n _ => ?_) _ 0 rfl).trans (congrArg _ ?_)
  · have hn : n.val < 512 := (n.cast hN).isLt
    have hw0 : ((⟨3, ![1, 512, 1]⟩ : Shape).rowMajor.symm n 0).val = 0 := by rw [hw]; rfl
    have hw1 : ((⟨3, ![1, 512, 1]⟩ : Shape).rowMajor.symm n 1).val = n.val := by rw [hw]; rfl
    have hw2 : ((⟨3, ![1, 512, 1]⟩ : Shape).rowMajor.symm n 2).val = 0 := by rw [hw]; rfl
    dsimp only
    split
    · next hin =>
      have h1 := hin 1
      rw [hw] at h1
      change 511 ≤ j.val * 1 + n.val ∧ j.val * 1 + n.val - 511 < 512 at h1
      refine (congrArg q (funext fun a => Fin.ext ?_)).trans ((hq ⟨j.val + n.val - 511, by omega⟩).trans ?_)
      · match a with
        | ⟨0, _⟩ => exact (congrArg (fun k => x.val * 1 + k - 0) hw0).trans (by show x.val * 1 + 0 - 0 = x.val; omega)
        | ⟨1, _⟩ => exact (congrArg (fun k => j.val * 1 + k - 511) hw1).trans (by show j.val * 1 + n.val - 511 = j.val + n.val - 511; omega)
        | ⟨2, _⟩ => exact (congrArg (fun k => e.val * 1 + k - 0) hw2).trans (by show e.val * 1 + 0 - 0 = e.val; omega)
      · refine congrArg _ (if_congr ?_ rfl rfl)
        exact ⟨fun h => ⟨(by omega : 511 ≤ j.val + n.val), (by omega : j.val + n.val - 511 < 512), h⟩, fun ⟨_, _, h⟩ => h⟩
    · next hin =>
      refine Eq.trans ?_ (congrArg (BitVec.ofNat 32) (if_neg fun h => hin fun a => ?_).symm)
      · rfl
      · rw [hw]
        match a with
        | ⟨0, _⟩ => show 0 ≤ x.val * 1 + 0 ∧ x.val * 1 + 0 - 0 < 2; omega
        | ⟨1, _⟩ => show 511 ≤ j.val * 1 + n.val ∧ j.val * 1 + n.val - 511 < 512; have := h.1; change 511 ≤ j.val + n.val at this; omega
        | ⟨2, _⟩ => show 0 ≤ e.val * 1 + 0 ∧ e.val * 1 + 0 - 0 < 8; omega
  · rw [Nat.zero_add, ← Fin.sum_univ_def]
    refine (Equiv.sum_comp (finCongr hN) f).trans ((Finset.card_filter _ _).symm.trans ?_)
    refine Finset.card_bij (fun n hn => ⟨j.val + n.val - 511, (Finset.mem_filter.1 hn).2.2.1⟩) (fun n hn => ?_) (fun n hn n' hn' h => ?_) (fun i hi => ?_)
    · obtain ⟨_, h1, h2, h3⟩ := Finset.mem_filter.1 hn
      exact Finset.mem_filter.2 ⟨Finset.mem_univ _, Fin.le_def.2 (by show j.val + n.val - 511 ≤ j.val; omega), h3⟩
    · have h1 := (Finset.mem_filter.1 hn).2.1
      have h2 := (Finset.mem_filter.1 hn').2.1
      have h3 := Fin.ext_iff.1 h
      change j.val + n.val - 511 = j.val + n'.val - 511 at h3
      exact Fin.ext (by omega)
    · obtain ⟨_, h1, h2⟩ := Finset.mem_filter.1 hi
      have h3 := Fin.le_def.1 h1
      have he : j.val + (i.val + 511 - j.val) - 511 = i.val := by omega
      refine ⟨⟨i.val + 511 - j.val, by omega⟩, Finset.mem_filter.2 ⟨Finset.mem_univ _, by show 511 ≤ j.val + (i.val + 511 - j.val); omega, ?_⟩, Fin.ext he⟩
      refine ⟨by show j.val + (i.val + 511 - j.val) - 511 < 512; omega, ?_⟩
      convert h2

variable (X : FVec Ideal S1024x1024 .f32) (R : FVec Ideal S1024x8 .f32) (W1 : FVec Ideal S8x1024x2048 .f32) (W2 : FVec Ideal S8x2048x1024 .f32)

theorem picked_at (n : Fin 1024) (e : Fin 8) : picked (places (gates X R)) (ix2 n e)
    = BitVec.ofBool (decide (top1 X R n = e ∨ top2 X R n = e)) := by
  pointwise [picked, places_at, cmp_places]
  rw [show (Finset.univ : Finset (Fin 2)) = {0, 1} from rfl, Finset.fold_insert (by simp), Finset.fold_singleton]
  show IntOp.ori (BitVec.ofBool (decide (top1 X R n = e))) (IntOp.ori (BitVec.ofBool (decide (top2 X R n = e))) 0#1) = _
  by_cases h1 : top1 X R n = e <;> by_cases h2 : top2 X R n = e <;> simp [h1, h2, IntOp.ori]

theorem ones_at (p : IVec S1024x8 1) (x : Fin 2) (t : Fin 512) (e : Fin 8) : ones p (ix3 x t e) = (p (ix2 (token x t) e)).setWidth 32 := by
  pointwise [ones]
  rfl

theorem and_one {a b : BitVec 1} (h : IntOp.andi a b = 1#1) : a = 1#1 ∧ b = 1#1 := by
  revert a b
  decide

theorem fold_and {ι : Type} [DecidableEq ι] {s : Finset ι} {p : ι → BitVec 1} (h : Finset.fold IntOp.andi 1#1 p s = 1#1) :
    ∀ k ∈ s, p k = 1#1 := by
  induction s using Finset.induction_on with
  | empty => exact fun k hk => absurd hk (Finset.notMem_empty k)
  | insert a s ha ih =>
    rw [Finset.fold_insert ha] at h
    exact fun k hk => (Finset.mem_insert.1 hk).elim (fun e => e ▸ (and_one h).1) (ih (and_one h).2 k)

theorem of_decide {p : Prop} [Decidable p] (h : BitVec.ofBool (decide p) = 1#1) : p := by
  by_contra hp
  rw [decide_eq_false hp] at h
  exact absurd h (by decide)

/-- What the predicate says of token `t` of shard `x`. -/
theorem mask_at (x : Fin 2) (t : Fin 512) (d : Fin 1024) (h : fn X R W1 W2 (ix2 (token x t) d) = 1#1) :
    ⊥ < gateRow X R (token x t) (top2 X R (token x t)) ∧ gateRow X R (token x t) (top1 X R (token x t)) < ⊤
    ∧ ∀ e, Has (fun i => top1 X R (token x i)) (fun i => top2 X R (token x i)) e t →
      count (Has (fun i => top1 X R (token x i)) (fun i => top2 X R (token x i)) e) t ≤ 192 := by
  rw [mask_eq] at h
  revert h
  pointwise [bounded, room, picked_at, largest_at]
  intro h
  obtain ⟨h, h3⟩ := and_one h
  obtain ⟨h1, h2⟩ := and_one h
  refine ⟨of_decide h2, lt_of_lt_of_le (of_decide h3) le_top, fun e he => ?_⟩
  have h4 := fold_and h1 e (Finset.mem_univ e)
  rw [if_pos he] at h4
  have hx := x.isLt
  have ht := t.isLt
  have e1 : (⟨(token x t).val / 512, by have := (token x t).isLt; omega⟩ : Fin 2) = x := Fin.ext (by
    show (x.val * 512 + t.val) / 512 = x.val
    omega)
  have e2 : (⟨(token x t).val % 512, Nat.mod_lt _ (by omega)⟩ : Fin 512) = t := Fin.ext (by
    show (x.val * 512 + t.val) % 512 = t.val
    omega)
  rw [e1, e2, queue_at _ (Has (fun i => top1 X R (token x i)) (fun i => top2 X R (token x i)) e) x t e fun i => by
    rw [ones_at, picked_at]
    by_cases hp : Has (fun i => top1 X R (token x i)) (fun i => top2 X R (token x i)) e i
    · rw [if_pos hp, decide_eq_true hp]
      rfl
    · rw [if_neg hp, decide_eq_false hp]
      rfl] at h4
  have h5 := of_decide (p := (BitVec.ofNat 32 _).toInt ≤ (192#32).toInt) ((congrArg BitVec.ofBool BitVec.sle_eq_decide).symm.trans h4)
  rw [toInt_small (lt_of_le_of_lt (count_le _ t) (by omega))] at h5
  have h6 : (192#32 : BitVec 32).toInt = 192 := by decide
  omega

end Cert.MoeProof.Mask
-- ==== Proof.Device.lean ====
/- One device's result at a token and a column is the reference's, wherever the predicate holds.

A device keeps the experts of its middle mesh coordinate and the tokens of that coordinate's shard. What it stores is its own four experts'
contributions to its tokens plus its peer's four experts' contributions to the same tokens, so all eight experts' terms. -/
module

public import proofs.«01_k».proof.Proof.Mask
public import proofs.«01_k».proof.Proof.Launch
public import Idealize.ShloMosaic.Lib.LayoutAt

@[expose] public section

set_option maxRecDepth 16384

noncomputable section

namespace Cert.MoeProof

open Cert.KernelIdeal Cert.KernelIdeal.Gen
open Idealize.ShloMosaic
open Idealize.ShloMosaic.TcCoe
open Mask (token)
open Ref (gateRow top1 top2 two_top term row)

/-- One expert's contribution, in the reference's words: its places and shares are the two largest gates'. -/
theorem partOf_at {r : FVec Ideal S1024x8 .f32} {x : FVec Ideal S512x1024 .f32} {A B : Fin 512 → Fin 8} (h2 : ∀ t, Two (gateAt r x t) (A t) (B t))
    (p : Vec Ideal S1x1024x2048 .f32) (q : Vec Ideal S1x2048x1024 .f32) (e : Fin 8) (t : Fin 512) (d : Fin 1024)
    (hl : ⊥ < gateAt r x t (B t)) (hc : Has A B e t → count (Has A B e) t ≤ 192) :
    partOf (BitVec.ofNat 32 e.val) r x p q (ix2 t d) = term (A t) (B t) e (gateAt r x t (A t)) (gateAt r x t (B t))
      (row (fun m => x (ix2 t m)) (fun m k => p (ix3 0 m k)) (fun k => q (ix3 0 k d))) := by
  choose K hK using fun t => place2_word (h2 t)
  have hsub : ∀ i, Has A K e i → Has A B e i := fun i h => h.elim .inl fun h => (hK i).2.1.elim (fun h' => .inl (h'.symm.trans h)) (fun h' => .inr (h'.symm.trans h))
  have hKt : K t = B t := ((hK t).2.2 hl).1
  obtain ⟨s1, s2⟩ := shares_word (h2 t) hl
  unfold partOf
  rw [contribE_at (fun t => place1_word (h2 t)) (fun t => (hK t).1) _ _ x p q t d (fun h =>
    (Finset.card_le_card fun i hi => by
      have h' := Finset.mem_filter.1 hi
      exact Finset.mem_filter.2 ⟨h'.1, h'.2.1, hsub i h'.2.2⟩).trans (hc (hsub t h))), s1, s2]
  unfold term
  have hne := (h2 t).ne
  show (if A t = e ∨ K t = e then _ else _) = _
  rw [hKt]
  by_cases h1 : A t = e
  · have h3 : B t ≠ e := fun h => hne (h.trans h1.symm)
    rw [if_pos (Or.inl h1), if_pos h1, if_neg h3, if_pos h1, if_neg h3, add_zero, add_zero, mul_comm]
    rfl
  · by_cases h3 : B t = e
    · rw [if_pos (Or.inr h3), if_neg h1, if_pos h3, if_neg h1, if_pos h3, zero_add, zero_add, mul_comm]
      rfl
    · rw [if_neg (fun h => h.elim h1 h3), if_neg h1, if_neg h3, add_zero]

/-- What expert `e` adds to the reference's result at token `n` and column `d`. -/
def added (X : FVec Ideal ⟨2, ![1024, 1024]⟩ .f32) (R : FVec Ideal ⟨2, ![1024, 8]⟩ .f32) (W1 : FVec Ideal ⟨3, ![8, 1024, 2048]⟩ .f32)
    (W2 : FVec Ideal ⟨3, ![8, 2048, 1024]⟩ .f32) (n d : Fin 1024) (e : Fin 8) : EReal :=
  term (top1 X R n) (top2 X R n) e (gateRow X R n (top1 X R n)) (gateRow X R n (top2 X R n))
    (row (fun k => X (ix2 n k)) (fun k h => W1 (ix3 e k h)) (fun h => W2 (ix3 e h d)))

/-! ## Which device holds what -/

/-- A device's middle mesh coordinate. -/
def mid (c : Dev nD) : Fin 2 := ⟨c.val / 4 % 2, by omega⟩

/-- Expert `j` of the four that the devices of coordinate `y` keep. -/
def expert (y : Fin 2) (j : Fin 4) : Fin 8 := ⟨y.val * 4 + j.val, by omega⟩

theorem expert_word (c : Dev nD) (j : Fin 4) : expertWord (yW c) (BitVec.ofNat 32 j.val) = BitVec.ofNat 32 (expert (mid c) j).val := by
  revert c j
  decide +kernel

theorem mid_member (c : Dev nD) (y : Fin 2) : mid (member c y) = y := by
  revert c y
  decide

theorem mid_cases (c : Dev nD) : (mid c = 0 ∧ mid (peer c) = 1) ∨ (mid c = 1 ∧ mid (peer c) = 0) := by
  revert c
  decide

theorem meshBlock_mid (c : Dev nD) : Layout.meshLin [2, 2, 4] c.val [1] = (mid c).val := by
  revert c
  decide

set_option backward.proofsInPublic true

section Blocks
variable (m : (ℓ : Loc nD τ sig) → Buf (Elt Ideal) ℓ)
variable {X : FVec Ideal ⟨2, ![1024, 1024]⟩ .f32} {R : FVec Ideal ⟨2, ![1024, 8]⟩ .f32} {W1 : FVec Ideal ⟨3, ![8, 1024, 2048]⟩ .f32} {W2 : FVec Ideal ⟨3, ![8, 2048, 1024]⟩ .f32}
  (hX : ∀ c : Dev nD, m ((c : Thread nD τ).loc main_arg0) = Layout.blockN ⟨2, ![512, 1024]⟩ ⟨2, ![1024, 1024]⟩ (Layout.meshBlock [2, 2, 4] ![[1], []] c) X)
  (hR : ∀ c : Dev nD, m ((c : Thread nD τ).loc main_arg1) = Layout.blockN ⟨2, ![1024, 4]⟩ ⟨2, ![1024, 8]⟩ (Layout.meshBlock [2, 2, 4] ![[], [1]] c) R)
  (h1 : ∀ c : Dev nD, m ((c : Thread nD τ).loc main_arg2) = Layout.blockN ⟨3, ![4, 1024, 2048]⟩ ⟨3, ![8, 1024, 2048]⟩ (Layout.meshBlock [2, 2, 4] ![[1], [], []] c) W1)
  (h2 : ∀ c : Dev nD, m ((c : Thread nD τ).loc main_arg3) = Layout.blockN ⟨3, ![4, 2048, 1024]⟩ ⟨3, ![8, 2048, 1024]⟩ (Layout.meshBlock [2, 2, 4] ![[1], [], []] c) W2)

include hX in
theorem x_at (c : Dev nD) (t : Fin 512) (k : Fin 1024) : xB m c (ix2 t k) = X (ix2 (token (mid c) t) k) := by
  rw [xB_eq, hX]
  refine congrArg X (funext fun a => Fin.ext ?_)
  match a with
  | ⟨0, _⟩ =>
    show Layout.meshLin [2, 2, 4] c.val [1] * 512 + t.val = (mid c).val * 512 + t.val
    rw [meshBlock_mid]
  | ⟨1, _⟩ =>
    show 0 * 1024 + k.val = k.val
    omega

include hR in
theorem r_at (c : Dev nD) (k : Fin 1024) (j : Fin 4) : rB m c (ix2 k j) = R (ix2 k (expert (mid c) j)) := by
  rw [rB_eq, hR]
  refine congrArg R (funext fun a => Fin.ext ?_)
  match a with
  | ⟨0, _⟩ =>
    show 0 * 1024 + k.val = k.val
    omega
  | ⟨1, _⟩ =>
    show Layout.meshLin [2, 2, 4] c.val [1] * 4 + j.val = (mid c).val * 4 + j.val
    rw [meshBlock_mid]

include hR in
/-- Both devices of a pair assemble the whole router. -/
theorem router (c : Dev nD) : rF m c = R := by
  funext i
  obtain ⟨k, j, rfl⟩ : ∃ (k : Fin 1024) (j : Fin 8), i = ix2 k j := ⟨i 0, i 1, eq_ix2 i⟩
  pointwise [rF, k0_pay3, unsq, r_at m hR, mid_member]
  split
  · exact congrArg (fun j => R (ix2 k j)) (Fin.ext (by show 0 * 4 + j.val = j.val; omega))
  · exact congrArg (fun j => R (ix2 k j)) (Fin.ext (by show 1 * 4 + (j.val - 4) = j.val; omega))

include h1 in
theorem w1_at (c : Dev nD) (j : Fin 4) (inb) (a : Fin 1024) (b : Fin 2048) :
    w1B m c ((r1 ![j.val, 0, 0] inb).idx (ix3 0 a b)) = W1 (ix3 (expert (mid c) j) a b) := by
  rw [w1B, h1]
  refine congrArg W1 (funext fun i => Fin.ext ?_)
  match i with
  | ⟨0, _⟩ =>
    show Layout.meshLin [2, 2, 4] c.val [1] * 4 + (j.val + 1 * 0) = (mid c).val * 4 + j.val
    rw [meshBlock_mid]
    omega
  | ⟨1, _⟩ =>
    show 0 * 1024 + (0 + 1 * a.val) = a.val
    omega
  | ⟨2, _⟩ =>
    show 0 * 2048 + (0 + 1 * b.val) = b.val
    omega

include h2 in
theorem w2_at (c : Dev nD) (j : Fin 4) (inb) (a : Fin 2048) (b : Fin 1024) :
    w2B m c ((r2 ![j.val, 0, 0] inb).idx (ix3 0 a b)) = W2 (ix3 (expert (mid c) j) a b) := by
  rw [w2B, h2]
  refine congrArg W2 (funext fun i => Fin.ext ?_)
  match i with
  | ⟨0, _⟩ =>
    show Layout.meshLin [2, 2, 4] c.val [1] * 4 + (j.val + 1 * 0) = (mid c).val * 4 + j.val
    rw [meshBlock_mid]
    omega
  | ⟨1, _⟩ =>
    show 0 * 2048 + (0 + 1 * a.val) = a.val
    omega
  | ⟨2, _⟩ =>
    show 0 * 1024 + (0 + 1 * b.val) = b.val
    omega

include hX hR h1 h2 in
/-- The contribution of expert `j` of device `g` to the tokens of device `c`, where the predicate holds. -/
theorem part_value (g c : Dev nD) (j : Fin 4) (inb1) (inb2) (t : Fin 512) (d : Fin 1024) {W : BitVec 32}
    (hw : W = BitVec.ofNat 32 j.val) (h : On_within_capacity.fn X R W1 W2 (ix2 (token (mid c) t) d) = 1#1) :
    partOf (expertWord (yW g) W) (rF m g) (xB m c) (fun y => w1B m g ((r1 ![j.val, 0, 0] inb1).idx y)) (fun y => w2B m g ((r2 ![j.val, 0, 0] inb2).idx y)) (ix2 t d)
      = added X R W1 W2 (token (mid c) t) d (expert (mid g) j) := by
  obtain ⟨hl, -, hc⟩ := Mask.mask_at X R W1 W2 (mid c) t d h
  have hg : ∀ i, gateAt (rF m g) (xB m c) i = gateRow X R (token (mid c) i) := fun i => by
    rw [router m hR]
    unfold gateAt gateRow
    simp only [x_at m hX]
  subst hw
  rw [expert_word]
  have := partOf_at (A := fun i => top1 X R (token (mid c) i)) (B := fun i => top2 X R (token (mid c) i))
    (fun i => by rw [hg]; exact two_top X R _) (fun y => w1B m g ((r1 ![j.val, 0, 0] inb1).idx y)) (fun y => w2B m g ((r2 ![j.val, 0, 0] inb2).idx y))
    (expert (mid g) j) t d (by rw [hg]; exact hl) (hc (expert (mid g) j))
  rw [this, hg]
  simp only [x_at m hX, w1_at m h1, w2_at m h2]
  rfl

/-- Four terms of each of two devices are the eight. -/
theorem eight (f : Fin 8 → EReal) (y z : Fin 2) (h : (y = 0 ∧ z = 1) ∨ (y = 1 ∧ z = 0)) :
    f (expert y 2) + f (expert y 3) + f (expert y 0) + f (expert y 1) + (f (expert z 0) + f (expert z 1) + f (expert z 2) + f (expert z 3)) = ∑ e, f e := by
  rw [Fin.sum_univ_eight]
  obtain ⟨rfl, rfl⟩ | ⟨rfl, rfl⟩ := h
  · show f 2 + f 3 + f 0 + f 1 + (f 4 + f 5 + f 6 + f 7) = _
    ac_rfl
  · show f 6 + f 7 + f 4 + f 5 + (f 0 + f 1 + f 2 + f 3) = _
    ac_rfl

include hX hR h1 h2 in
/-- A device's result is the reference's block, where the predicate holds. -/
theorem out_value (c : Dev nD) (t : Fin 512) (d : Fin 1024) (h : On_within_capacity.fn X R W1 W2 (ix2 (token (mid c) t) d) = 1#1) :
    outB m c (ix2 t d) = Ref.moe X R W1 W2 (ix2 (token (mid c) t) d) := by
  obtain ⟨hl, hu, -⟩ := Mask.mask_at X R W1 W2 (mid c) t d h
  have own (j : Fin 4) (inb1) (inb2) := part_value m hX hR h1 h2 c c j inb1 inb2 t d rfl h
  have got (j : Fin 4) (inb1) (inb2) := part_value m hX hR h1 h2 (peer c) c j inb1 inb2 t d rfl h
  refine Eq.trans ?_ ((eight (added X R W1 W2 (token (mid c) t) d) _ _ (mid_cases c)).trans (Ref.moe_at X R W1 W2 hl hu d).symm)
  have sum (u v : FVec Ideal S512x1024 .f32) (i) : addf u v i = u i + v i := rfl
  have o0 : partOf (expertWord (yW c) 0#32) (rF m c) (xB m c) (p0 (w1B m c)) (q0 (w2B m c)) (ix2 t d) = _ := own 0 _ _
  have o1 : partOf (expertWord (yW c) 1#32) (rF m c) (xB m c) (p1 (w1B m c)) (q1 (w2B m c)) (ix2 t d) = _ := own 1 _ _
  have o2 : partOf (expertWord (yW c) 2#32) (rF m c) (xB m c) (p2 (w1B m c)) (q2 (w2B m c)) (ix2 t d) = _ := own 2 _ _
  have o3 : partOf (expertWord (yW c) 3#32) (rF m c) (xB m c) (p3 (w1B m c)) (q3 (w2B m c)) (ix2 t d) = _ := own 3 _ _
  have g0 : partOf (expertWord (yW (peer c)) 0#32) (rF m (peer c)) (xB m c) (p0 (w1B m (peer c))) (q0 (w2B m (peer c))) (ix2 t d) = _ := got 0 _ _
  have g1 : partOf (expertWord (yW (peer c)) 1#32) (rF m (peer c)) (xB m c) (p1 (w1B m (peer c))) (q1 (w2B m (peer c))) (ix2 t d) = _ := got 1 _ _
  have g2 : partOf (expertWord (yW (peer c)) 2#32) (rF m (peer c)) (xB m c) (p2 (w1B m (peer c))) (q2 (w2B m (peer c))) (ix2 t d) = _ := got 2 _ _
  have g3 : partOf (expertWord (yW (peer c)) 3#32) (rF m (peer c)) (xB m c) (p3 (w1B m (peer c))) (q3 (w2B m (peer c))) (ix2 t d) = _ := got 3 _ _
  rw [outB, sentB, contribB_sum, contribA_sum, peer_peer, shapeCast_self, show k0_pay4 (xB m c) = xB m c from shapeCast_self _ _,
    sum, sum, sum, sum, sum, sum, sum, o0, o1, o2, o3, g0, g1, g2, g3]

end Blocks
end Cert.MoeProof
-- ==== Proof.Value.lean ====
/- The value claim: both programs run, and where the predicate holds every device's result is the reference's block. -/
module

public import proofs.«01_k».proof.Defs
public import proofs.«01_k».proof.Proof.Device

@[expose] public section

set_option maxRecDepth 16384

noncomputable section

namespace Cert.MoeProof

open Idealize.ShloMosaic Idealize.SL.Sem

open Cert.ReferenceIdeal in
/-- The reference's run leaves its chain of arrays, of its arguments. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r =>
      r.2.mem (((0 : Dev nD).tc : Thread nD τ).loc main_v206) = Ref.moe (F := Ideal) (m (((0 : Dev nD).tc : Thread nD τ).loc main_arg0))
          (m (((0 : Dev nD).tc : Thread nD τ).loc main_arg1)) (m (((0 : Dev nD).tc : Thread nD τ).loc main_arg2)) (m (((0 : Dev nD).tc : Thread nD τ).loc main_arg3))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3) :=
  (θ_run _ _ _).mono (fun _ h => ⟨(h 0).1.trans (Ref.run_term _), (h 0).2⟩) (Cert.ReferenceIdeal.Value.run m g)

/-- A block's index in the whole array. -/
theorem block_idx (c : Dev Cert.KernelIdeal.nD) (t : Fin 512) (d : Fin 1024)
    (h : Layout.TilesN ⟨2, ![512, 1024]⟩ ⟨2, ![1024, 1024]⟩ fun b => Layout.cutSize [2, 2, 4] ((![[1], []] : Fin 2 → List Nat) b)) :
    h.idx (Layout.meshBlock [2, 2, 4] ![[1], []] c) (ix2 t d) = ix2 (Mask.token (mid c) t) d := by
  funext a
  refine Fin.ext ?_
  match a with
  | ⟨0, _⟩ =>
    show Layout.meshLin [2, 2, 4] c.val [1] * 512 + t.val = (mid c).val * 512 + t.val
    rw [meshBlock_mid]
  | ⟨1, _⟩ =>
    show 0 * 1024 + d.val = d.val
    omega

theorem value : Cert.algebraic_KernelIdeal_ReferenceIdeal_on_within_capacity
    (hKernelIdeal := Cert.KernelIdeal.Gen.facts) (hReferenceIdeal := Cert.ReferenceIdeal.Gen.facts)
    (hOn_within_capacity := Cert.On_within_capacity.Gen.facts) := by
  intro m g m' g' _ hm
  refine ⟨_, ?_, (θ_run _ _ _).mono (fun r h => ⟨fun i _ => congrFun h.1 i, h.2⟩) (reference_run m' g')⟩
  refine (θ_run _ _ _).mono (fun r h c => ⟨fun i hi => ?_, (h.1 c).2⟩) (run_main m g)
  refine (congrFun (h.1 c).1 i).trans ?_
  obtain ⟨t, d, rfl⟩ : ∃ (t : Fin 512) (d : Fin 1024), i = ix2 t d := ⟨i 0, i 1, eq_ix2 i⟩
  refine (out_value m (fun c => (hm c).1) (fun c => (hm c).2.1) (fun c => (hm c).2.2.1) (fun c => (hm c).2.2.2) c t d ?_).trans ?_
  · exact (congrArg _ (block_idx c t d _).symm).trans hi
  · exact congrArg _ (block_idx c t d _).symm

end Cert.MoeProof
end
-- ==== Proof.lean ====
/- The certificate's claims, assembled. -/
module

public import proofs.«01_k».proof.Defs
public import proofs.«01_k».proof.Proof.Gen.Kernel
public import proofs.«01_k».proof.Proof.Gen.ReferenceIdeal.Run
public import proofs.«01_k».proof.Proof.Gen.On_within_capacity
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.On_within_capacity.Gen.facts,
  Cert.MoeProof.frame_kernel, Cert.MoeProof.frame_kernelIdeal, Cert.MoeProof.frame_reference,
  IdealRules.named_const.statement Cert.KernelIdeal.κ "mask" .f32 0xF149F2CA#32 ⊥ rfl, Cert.MoeProof.value⟩

end Cert.Proof

end
